-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S1024x1024 : Shape := ⟨2, ![1024, 1024]⟩
abbrev S256x1024 : Shape := ⟨2, ![256, 1024]⟩
abbrev S3x256x256 : Shape := ⟨3, ![3, 256, 256]⟩
abbrev S3 : Shape := ⟨1, ![3]⟩
abbrev S2 : Shape := ⟨1, ![2]⟩
abbrev S_ : Shape := ⟨0, ![]⟩
abbrev S1 : Shape := ⟨1, ![1]⟩
abbrev S1x256x256 : Shape := ⟨3, ![1, 256, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S1024x256, .f32⟩
  | .hbm, ⟨1, _⟩ => ⟨S1024x1024, .f32⟩
  | .hbm, ⟨2, _⟩ => ⟨S256x1024, .f32⟩
  | .local _ .vmem, ⟨0, _⟩ => ⟨S1024x256, .f32⟩
  | .local _ .vmem, ⟨1, _⟩ => ⟨S1024x1024, .f32⟩
  | .local _ .vmem, ⟨2, _⟩ => ⟨S256x1024, .f32⟩
  | .local _ .vmem, ⟨3, _⟩ => ⟨S1024x256, .bf16⟩
  | .local _ .vmem, ⟨4, _⟩ => ⟨S3x256x256, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v8 : BitVec 32 := Scalar.addi v2 c1_i32_1
  let c4_i32_2 : BitVec 32 := 4#32
  let c0_i32_3 : BitVec 32 := 0#32
  let v9 : BitVec 1 := Scalar.cmpi .eq c4_i32_2 c0_i32_3
  let c1_i32_4 : BitVec 32 := 1#32
  let v10 : BitVec 32 := Scalar.select v9 c1_i32_4 c4_i32_2
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c1_i32_9 : BitVec 32 := 1#32
  let v19 : BitVec 32 := Scalar.muli v18 c1_i32_9
  let v20 : BitVec 32 := Scalar.addi c0_i32_10 v19
  v20.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v21 : BitVec 32 := Scalar.addi v2 c2_i32
  let c4_i32_11 : BitVec 32 := 4#32
  let c0_i32_12 : BitVec 32 := 0#32
  let v22 : BitVec 1 := Scalar.cmpi .eq c4_i32_11 c0_i32_12
  let c1_i32_13 : BitVec 32 := 1#32
  let v23 : BitVec 32 := Scalar.select v22 c1_i32_13 c4_i32_11
  let v24 : BitVec 32 := Scalar.remsi v21 v23
  let c0_i32_15 : BitVec 32 := 0#32
  let v26 : BitVec 1 := Scalar.cmpi .slt v24 c0_i32_15
  let c0_i32_16 : BitVec 32 := 0#32
  let v27 : BitVec 1 := Scalar.cmpi .slt v23 c0_i32_16
  let v28 : BitVec 1 := Scalar.xori v26 v27
  let c0_i32_14 : BitVec 32 := 0#32
  let v25 : BitVec 1 := Scalar.cmpi .ne v24 c0_i32_14
  let v29 : BitVec 1 := Scalar.andi v28 v25
  let v30 : BitVec 32 := Scalar.addi v24 v23
  let v31 : BitVec 32 := Scalar.select v29 v30 v24
  let c1_i32_18 : BitVec 32 := 1#32
  let v32 : BitVec 32 := Scalar.muli v31 c1_i32_18
  let v33 : BitVec 32 := Scalar.addi c0_i32_19 v32
  v33.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v34 : BitVec 32 := Scalar.addi v2 c3_i32
  let c4_i32_20 : BitVec 32 := 4#32
  let c0_i32_21 : BitVec 32 := 0#32
  let v35 : BitVec 1 := Scalar.cmpi .eq c4_i32_20 c0_i32_21
  let c1_i32_22 : BitVec 32 := 1#32
  let v36 : BitVec 32 := Scalar.select v35 c1_i32_22 c4_i32_20
  let v37 : BitVec 32 := Scalar.remsi v34 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  let c1_i32_27 : BitVec 32 := 1#32
  let v45 : BitVec 32 := Scalar.muli v44 c1_i32_27
  let v46 : BitVec 32 := Scalar.addi c0_i32_28 v45
  v46.toNat
def k0_off1 (d0 : Dev nD) (c1_i32_34 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v54 : BitVec 32 := Scalar.addi v2 c1_i32_34
  let c4_i32_35 : BitVec 32 := 4#32
  let c0_i32_36 : BitVec 32 := 0#32
  let v55 : BitVec 1 := Scalar.cmpi .eq c4_i32_35 c0_i32_36
  let c1_i32_37 : BitVec 32 := 1#32
  let v56 : BitVec 32 := Scalar.select v55 c1_i32_37 c4_i32_35
  let v57 : BitVec 32 := Scalar.remsi v54 v56
  let c0_i32_39 : BitVec 32 := 0#32
  let v59 : BitVec 1 := Scalar.cmpi .slt v57 c0_i32_39
  let c0_i32_40 : BitVec 32 := 0#32
  let v60 : BitVec 1 := Scalar.cmpi .slt v56 c0_i32_40
  let v61 : BitVec 1 := Scalar.xori v59 v60
  let c0_i32_38 : BitVec 32 := 0#32
  let v58 : BitVec 1 := Scalar.cmpi .ne v57 c0_i32_38
  let v62 : BitVec 1 := Scalar.andi v61 v58
  let v63 : BitVec 32 := Scalar.addi v57 v56
  let v64 : BitVec 32 := Scalar.select v62 v63 v57
  let c256_i32 : BitVec 32 := 256#32
  let v65 : BitVec 32 := Scalar.muli v64 c256_i32
  let c0_i32_48 : BitVec 32 := 0#32
  ![v65.toNat, 0]
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v54 : BitVec 32 := Scalar.addi v2 c1_i32_34
  let c4_i32_35 : BitVec 32 := 4#32
  let c0_i32_36 : BitVec 32 := 0#32
  let v55 : BitVec 1 := Scalar.cmpi .eq c4_i32_35 c0_i32_36
  let c1_i32_37 : BitVec 32 := 1#32
  let v56 : BitVec 32 := Scalar.select v55 c1_i32_37 c4_i32_35
  let v57 : BitVec 32 := Scalar.remsi v54 v56
  let c0_i32_39 : BitVec 32 := 0#32
  let v59 : BitVec 1 := Scalar.cmpi .slt v57 c0_i32_39
  let c0_i32_40 : BitVec 32 := 0#32
  let v60 : BitVec 1 := Scalar.cmpi .slt v56 c0_i32_40
  let v61 : BitVec 1 := Scalar.xori v59 v60
  let c0_i32_38 : BitVec 32 := 0#32
  let v58 : BitVec 1 := Scalar.cmpi .ne v57 c0_i32_38
  let v62 : BitVec 1 := Scalar.andi v61 v58
  let v63 : BitVec 32 := Scalar.addi v57 v56
  let v64 : BitVec 32 := Scalar.select v62 v63 v57
  let c1_i32_44 : BitVec 32 := 1#32
  let v66 : BitVec 32 := Scalar.muli v64 c1_i32_44
  let v67 : BitVec 32 := Scalar.addi c0_i32_45 v66
  v67.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_49 : BitVec 32 := 2#32
  let v75 : BitVec 32 := Scalar.addi v2 c2_i32_49
  let c4_i32_50 : BitVec 32 := 4#32
  let c0_i32_51 : BitVec 32 := 0#32
  let v76 : BitVec 1 := Scalar.cmpi .eq c4_i32_50 c0_i32_51
  let c1_i32_52 : BitVec 32 := 1#32
  let v77 : BitVec 32 := Scalar.select v76 c1_i32_52 c4_i32_50
  let v78 : BitVec 32 := Scalar.remsi v75 v77
  let c0_i32_54 : BitVec 32 := 0#32
  let v80 : BitVec 1 := Scalar.cmpi .slt v78 c0_i32_54
  let c0_i32_55 : BitVec 32 := 0#32
  let v81 : BitVec 1 := Scalar.cmpi .slt v77 c0_i32_55
  let v82 : BitVec 1 := Scalar.xori v80 v81
  let c0_i32_53 : BitVec 32 := 0#32
  let v79 : BitVec 1 := Scalar.cmpi .ne v78 c0_i32_53
  let v83 : BitVec 1 := Scalar.andi v82 v79
  let v84 : BitVec 32 := Scalar.addi v78 v77
  let v85 : BitVec 32 := Scalar.select v83 v84 v78
  let c1_i32_60 : BitVec 32 := 1#32
  let v87 : BitVec 32 := Scalar.muli v85 c1_i32_60
  let v88 : BitVec 32 := Scalar.addi c0_i32_61 v87
  v88.toNat
def k0_dev6 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_65 : BitVec 32 := 3#32
  let v96 : BitVec 32 := Scalar.addi v2 c3_i32_65
  let c4_i32_66 : BitVec 32 := 4#32
  let c0_i32_67 : BitVec 32 := 0#32
  let v97 : BitVec 1 := Scalar.cmpi .eq c4_i32_66 c0_i32_67
  let c1_i32_68 : BitVec 32 := 1#32
  let v98 : BitVec 32 := Scalar.select v97 c1_i32_68 c4_i32_66
  let v99 : BitVec 32 := Scalar.remsi v96 v98
  let c0_i32_70 : BitVec 32 := 0#32
  let v101 : BitVec 1 := Scalar.cmpi .slt v99 c0_i32_70
  let c0_i32_71 : BitVec 32 := 0#32
  let v102 : BitVec 1 := Scalar.cmpi .slt v98 c0_i32_71
  let v103 : BitVec 1 := Scalar.xori v101 v102
  let c0_i32_69 : BitVec 32 := 0#32
  let v100 : BitVec 1 := Scalar.cmpi .ne v99 c0_i32_69
  let v104 : BitVec 1 := Scalar.andi v103 v100
  let v105 : BitVec 32 := Scalar.addi v99 v98
  let v106 : BitVec 32 := Scalar.select v104 v105 v99
  let c1_i32_76 : BitVec 32 := 1#32
  let v108 : BitVec 32 := Scalar.muli v106 c1_i32_76
  let v109 : BitVec 32 := Scalar.addi c0_i32_77 v108
  v109.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_82 : BitVec 32 := 256#32
  let v119 : BitVec 32 := Scalar.muli v2 c256_i32_82
  let v120 : Index := Scalar.indexCast v119
  let c0_83 : Index := 0#32
  ![v120.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_84 : BitVec 32 := 256#32
  let v122 : BitVec 32 := Scalar.muli v2 c256_i32_84
  let v123 : Index := Scalar.indexCast v122
  let c0_85 : Index := 0#32
  ![v123.toNat, 0]
def k0_off4 (d0 : Dev nD) (c0_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v126 : BitVec 32 := Scalar.addi v2 c0_i32_86
  let c1_i32_87 : BitVec 32 := 1#32
  let v127 : BitVec 32 := Scalar.addi v126 c1_i32_87
  let c4_i32_88 : BitVec 32 := 4#32
  let c0_i32_89 : BitVec 32 := 0#32
  let v128 : BitVec 1 := Scalar.cmpi .eq c4_i32_88 c0_i32_89
  let c1_i32_90 : BitVec 32 := 1#32
  let v129 : BitVec 32 := Scalar.select v128 c1_i32_90 c4_i32_88
  let v130 : BitVec 32 := Scalar.remsi v127 v129
  let c0_i32_92 : BitVec 32 := 0#32
  let v132 : BitVec 1 := Scalar.cmpi .slt v130 c0_i32_92
  let c0_i32_93 : BitVec 32 := 0#32
  let v133 : BitVec 1 := Scalar.cmpi .slt v129 c0_i32_93
  let v134 : BitVec 1 := Scalar.xori v132 v133
  let c0_i32_91 : BitVec 32 := 0#32
  let v131 : BitVec 1 := Scalar.cmpi .ne v130 c0_i32_91
  let v135 : BitVec 1 := Scalar.andi v134 v131
  let v136 : BitVec 32 := Scalar.addi v130 v129
  let v137 : BitVec 32 := Scalar.select v135 v136 v130
  let c256_i32_106 : BitVec 32 := 256#32
  let v147 : BitVec 32 := Scalar.muli v137 c256_i32_106
  let v148 : Index := Scalar.indexCast v147
  let c0_107 : Index := 0#32
  ![v148.toNat, 0]
-- ==== ReferenceIdeal.lean ====
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Protocol.lean ====
/-
The protocol of the kernel's four devices, before any run: which device each transfer names, the pieces of the
buffers the transfers move, the contents of every landing, and the schedule of payments on every semaphore.

Device `c` names three others: `tgt k c`, `k + 1` places after it, for `k = 0, 1, 2`. It signals the barrier of
all three, waits for three units on its own, and copies to `tgt k c` the block of rows of its rounded `x` that
belongs to `tgt k c`, into slot `2 - k` of that device's receive buffer. Seen from the receiver `d`, slot `j`
holds a block of device `tgt j d`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's payments are counted in rounds on every semaphore, a round's payments named by `Fin 3`. -/
abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

abbrev 𝒱₀ : Variants := Variants.none

/-! ## Who talks to whom -/

set_option backward.proofsInPublic true in
/-- The device `k + 1` places after `c`. -/
def tgt (k : Fin 3) (c : Dev nD) : Dev nD := ⟨(c.val + k.val + 1) % 4, Nat.mod_lt _ (by decide)⟩

/-- Going `k + 1` places and then `(2 - k) + 1` more is going once around. -/
theorem tgt_rev_tgt (k : Fin 3) (c : Dev nD) : tgt k.rev (tgt k c) = c := by revert k c; decide
theorem tgt_tgt_rev (k : Fin 3) (c : Dev nD) : tgt k (tgt k.rev c) = c := by revert k c; decide

/-- `tgt k` is a bijection of the devices. -/
def ring (k : Fin 3) : Dev nD ≃ Dev nD := ⟨tgt k, tgt k.rev, tgt_rev_tgt k, tgt_tgt_rev k⟩

theorem dev1_eq (c : Dev nD) : (⟨k0_dev1 c, k0_dev1_lt c⟩ : Dev nD) = tgt 0 c := by revert c; decide +kernel
theorem dev2_eq (c : Dev nD) : (⟨k0_dev2 c, k0_dev2_lt c⟩ : Dev nD) = tgt 1 c := by revert c; decide +kernel
theorem dev3_eq (c : Dev nD) : (⟨k0_dev3 c, k0_dev3_lt c⟩ : Dev nD) = tgt 2 c := by revert c; decide +kernel
theorem dev4_eq (c : Dev nD) : (⟨k0_dev4 c, k0_dev4_lt c⟩ : Dev nD) = tgt 0 c := by revert c; decide +kernel
theorem dev5_eq (c : Dev nD) : (⟨k0_dev5 c, k0_dev5_lt c⟩ : Dev nD) = tgt 1 c := by revert c; decide +kernel
theorem dev6_eq (c : Dev nD) : (⟨k0_dev6 c, k0_dev6_lt c⟩ : Dev nD) = tgt 2 c := by revert c; decide +kernel

/-- The rows each transfer reads on device `c` start at 256 times the number of the device it goes to. -/
theorem off1_1 (c : Dev nD) : k0_off1 c 1#32 = ![256 * (tgt 0 c).val, 0] := by revert c; decide +kernel
theorem off1_2 (c : Dev nD) : k0_off1 c 2#32 = ![256 * (tgt 1 c).val, 0] := by revert c; decide +kernel
theorem off1_3 (c : Dev nD) : k0_off1 c 3#32 = ![256 * (tgt 2 c).val, 0] := by revert c; decide +kernel
/-- The rows of `w` each product reads start at 256 times the number of the device its slot came from. -/
theorem off4_0 (c : Dev nD) : k0_off4 c 0#32 = ![256 * (tgt 0 c).val, 0] := by revert c; decide +kernel
theorem off4_1 (c : Dev nD) : k0_off4 c 1#32 = ![256 * (tgt 1 c).val, 0] := by revert c; decide +kernel
theorem off4_2 (c : Dev nD) : k0_off4 c 2#32 = ![256 * (tgt 2 c).val, 0] := by revert c; decide +kernel

/-! ## Buffers and their pieces -/

abbrev xHbm : Memref sig .tc .hbm S1024x256 .f32 := Memref.whole main_arg0
abbrev wHbm : Memref sig .tc .hbm S1024x1024 .f32 := Memref.whole main_arg1
abbrev oHbm : Memref sig .tc .hbm S256x1024 .f32 := Memref.whole main_v1
abbrev xM : Memref sig .tc .vmem S1024x256 .f32 := Memref.whole cc0_scratch0
abbrev wM : Memref sig .tc .vmem S1024x1024 .f32 := Memref.whole cc0_scratch1
abbrev oM : Memref sig .tc .vmem S256x1024 .f32 := Memref.whole cc0_scratch2
abbrev bM : Memref sig .tc .vmem S1024x256 .bf16 := Memref.whole cc0_scratch3
abbrev cM : Memref sig .tc .vmem S3x256x256 .bf16 := Memref.whole cc0_scratch4

theorem inb_row (t : Dev nD) : ∀ a, (![256 * t.val, 0] : Fin 2 → ℕ) a + S256x256.size a ≤ S1024x256.size a := by revert t; decide
theorem inb_wrow (t : Dev nD) : ∀ a, (![256 * t.val, 0] : Fin 2 → ℕ) a + S256x1024.size a ≤ S1024x1024.size a := by revert t; decide
theorem inb_slot (j : Fin 3) : ∀ a, (![j.val, 0, 0] : Fin 3 → ℕ) a + S1x256x256.size a ≤ S3x256x256.size a := by revert j; decide

/-- The block of 256 rows of a `1024×256` buffer that belongs to device `t`. -/
abbrev rowR (t : Dev nD) : Rect S1024x256 := Rect.unit (s := S1024x256) ![256 * t.val, 0] S256x256.size (inb_row t)
/-- The block of 256 rows of `w` that belongs to device `t`. -/
abbrev wrowR (t : Dev nD) : Rect S1024x1024 := Rect.unit (s := S1024x1024) ![256 * t.val, 0] S256x1024.size (inb_wrow t)
/-- Slot `j` of the receive buffer. -/
abbrev slotR (j : Fin 3) : Rect S3x256x256 := Rect.unit (s := S3x256x256) ![j.val, 0, 0] S1x256x256.size (inb_slot j)

/-- Device `t`'s rows of the rounded `x`, as a transfer names them. -/
abbrev srcM (t : Dev nD) : Memref sig .tc .vmem S256x256 .bf16 := bM.slice (rowR t) (fun _ => rfl)
/-- Slot `j` of the receive buffer, as a transfer names it. -/
abbrev slotM (j : Fin 3) : Memref sig .tc .vmem S256x256 .bf16 := (cM.slice (slotR j) (fun _ => rfl)).squeeze S256x256 squeezes_S1x256x256_S256x256

/-! ## Semaphores -/

/-- The barrier semaphore: the runtime's, not the launch's own. -/
abbrev barS : Sem sig := (SemArray.scalar (sig.barrier 0 rfl) : Sems sig S_).sem
/-- The semaphores of copy `k`'s departure, of slot `j`'s arrival, of the copies of `x`, of `w` and of the result. -/
abbrev sndS (k : Fin 3) : DmaSem sig := (⟨k.val, by have := k.isLt; show k.val < 9; omega⟩ : Fin 9)
abbrev rcvS (j : Fin 3) : DmaSem sig := (⟨3 + j.val, by have := j.isLt; show 3 + j.val < 9; omega⟩ : Fin 9)
abbrev xinS : DmaSem sig := (6 : Fin 9)
abbrev winS : DmaSem sig := (7 : Fin 9)
abbrev outS : DmaSem sig := (8 : Fin 9)

abbrev barCell (c : Dev nD) : GSem nD τ sig := ((c : Thread nD τ), .reg barS)
abbrev dmaCell (c : Dev nD) (q : DmaSem sig) : GSem nD τ sig := ((c : Thread nD τ), .dma q)

/-- The credit of one block, of `x`, of `w` and of the result. -/
abbrev Nb : ℕ := (slotM 0).view.dmaCredit
abbrev Nx : ℕ := xM.view.dmaCredit
abbrev Nw : ℕ := wM.view.dmaCredit
abbrev No : ℕ := oHbm.view.dmaCredit

theorem Nb_src (t : Dev nD) : (srcM t).view.dmaCredit = Nb := rfl
theorem Nb_slot (j : Fin 3) : (slotM j).view.dmaCredit = Nb := rfl
theorem Nb_pos : 0 < Nb := View.dmaCredit_pos _ (by decide)
theorem Nx_pos : 0 < Nx := View.dmaCredit_pos _ (by decide)
theorem Nw_pos : 0 < Nw := View.dmaCredit_pos _ (by decide)
theorem No_pos : 0 < No := View.dmaCredit_pos _ (by decide)

/-! ## Contents -/

section Contents

variable (m : (ℓ : Loc nD τ sig) → Buf (Elt F) ℓ)

/-- Device `c`'s columns of `x`, and its `w`, at launch. -/
def xv (c : Dev nD) : (cc0_scratch0 : Ref sig .tc).ty.Contents (Elt F) := m ((c : Thread nD τ).loc main_arg0)
def wv (c : Dev nD) : (cc0_scratch1 : Ref sig .tc).ty.Contents (Elt F) := m ((c : Thread nD τ).loc main_arg1)
/-- Device `c`'s columns of `x` rounded to 16 bits. -/
def xbf (c : Dev nD) : (cc0_scratch3 : Ref sig .tc).ty.Contents (Elt F) := k0_pay2 (xv m c)
/-- What arrives in slot `j` of device `d`: device `d`'s rows of device `tgt j d`'s rounded columns. -/
def blk (j : Fin 3) (d : Dev nD) : S256x256.Idx → Elt F .bf16 := (srcM d).view.read (Elt F) (xbf m (tgt j d))

/-- Device `t`'s rows of device `c`'s columns of `x`, and of its `w`. -/
def xRows (c t : Dev nD) : Vec F S256x256 .f32 := xM.view.readAt (Elt F) (rowR t).toLoadRect (xv m c)
def wRows (c t : Dev nD) : Vec F S256x1024 .f32 := wM.view.readAt (Elt F) (wrowR t).toLoadRect (wv m c)

/-- One more block product added to the running sum. -/
def macc (acc : FVec F S256x1024 .f32) (b : FVec F S256x256 .bf16) (w : Vec F S256x1024 .f32) : FVec F S256x1024 .f32 :=
  addf acc (matmul dot_S256x256_S256x1024_S256x1024_1_0_0_1_n_n none b w (constant S256x1024 .f32 0x00000000#32))

/-- The running sum after each arrival, in the order the kernel takes them: slots 0, 2, 1. -/
def acc0 (c : Dev nD) : FVec F S256x1024 .f32 := k0_pay3 (xRows m c c) (wRows m c c)
def acc1 (c : Dev nD) : FVec F S256x1024 .f32 := macc (acc0 m c) (blk m 0 c) (wRows m c (tgt 0 c))
def acc2 (c : Dev nD) : FVec F S256x1024 .f32 := macc (acc1 m c) (blk m 2 c) (wRows m c (tgt 2 c))
def acc3 (c : Dev nD) : FVec F S256x1024 .f32 := macc (acc2 m c) (blk m 1 c) (wRows m c (tgt 1 c))
/-- The kernel's result on device `c`: the positive part of the whole sum. -/
def out (c : Dev nD) : (cc0_scratch2 : Ref sig .tc).ty.Contents (Elt F) := k0_pay1 (acc3 m c)

end Contents

/-! ## The schedule of payments -/

variable (m : (ℓ : Loc nD τ sig) → Buf (Elt F) ℓ)

/-- A whole buffer of device `c` at given contents. -/
abbrev whole (c : Dev nD) (b : Ref sig .tc) (f : Buf (Elt F) ((c : Thread nD τ).loc b)) : sProp 𝕄 := ((c : Thread nD τ).loc b) ↦{fullShare} f
/-- Device `t`'s rows of device `c`'s rounded `x` at contents `f`. -/
abbrev rowPts (c t : Dev nD) (f : Buf (Elt F) ((srcM t).view.loc (c : Thread nD τ))) : sProp 𝕄 :=
  (srcM t).view.loc (c : Thread nD τ) ↦[(srcM t).view.set]{fullShare} f
/-- Slot `j` of device `c`'s receive buffer at contents `f`. -/
abbrev slotPts (c : Dev nD) (j : Fin 3) (f : Buf (Elt F) ((slotM j).view.loc (c : Thread nD τ))) : sProp 𝕄 :=
  (slotM j).view.loc (c : Thread nD τ) ↦[(slotM j).view.set]{fullShare} f

/-- What the barrier unit paid by `tgt k t` hands device `t`: the slot of `tgt k t` that `t`'s copy `k` fills. -/
def barPay (t : Dev nD) (k : Fin 3) : sProp 𝕄 := iprop(∃ f, slotPts (tgt k t) k.rev f)
/-- What an arrival in slot `j` hands device `d`: the slot reading the block that was sent. -/
def recvPay (d : Dev nD) (j : Fin 3) : sProp 𝕄 := owns (d : Thread nD τ) (slotM j) fullShare (blk m j d)
/-- What the departure of copy `k` hands back: the rows it read. -/
def sendPay (c : Dev nD) (k : Fin 3) : sProp 𝕄 := rowPts c (tgt k c) (xbf m c)
/-- What the three local copies hand back: both their buffers, equal. -/
def xinPay (c : Dev nD) : sProp 𝕄 := iprop(whole c cc0_scratch0 (xv m c) ∗ whole c main_arg0 (xv m c))
def winPay (c : Dev nD) : sProp 𝕄 := iprop(whole c cc0_scratch1 (wv m c) ∗ whole c main_arg1 (wv m c))
def outPay (c : Dev nD) : sProp 𝕄 := iprop(whole c main_v1 (out m c) ∗ whole c cc0_scratch2 (out m c))

/-- What a completed transfer on semaphore `q` hands device `c`. -/
def dmaPay (c : Dev nD) (q : DmaSem sig) : sProp 𝕄 :=
  if h : q.val < 3 then sendPay m c ⟨q.val, h⟩
  else if h : q.val < 6 then recvPay m c ⟨q.val - 3, by omega⟩
  else if q.val = 6 then xinPay m c
  else if q.val = 7 then winPay m c
  else outPay m c

/-- The credit of the transfer on semaphore `q`. -/
def dmaAmt (q : DmaSem sig) : ℕ :=
  if q.val < 6 then Nb else if q.val = 6 then Nx else if q.val = 7 then Nw else No

theorem dmaAmt_pos (q : DmaSem sig) : 0 < dmaAmt q := by
  unfold dmaAmt
  split
  · exact Nb_pos
  split
  · exact Nx_pos
  split
  · exact Nw_pos
  · exact No_pos

/-- The payments of a semaphore's round: three on the barrier, one on each other. -/
def semDuties : SemLoc sig → Finset (Fin 3)
  | .reg _ => Finset.univ
  | .dma _ => {0}
def semAmt : SemLoc sig → ℕ
  | .reg _ => 1
  | .dma q => dmaAmt q
def semPay (c : Dev nD) : SemLoc sig → Fin 3 → sProp 𝕄
  | .reg _, k => barPay c k
  | .dma q, _ => dmaPay m c q

/-- One round on every semaphore of every device. -/
def Rd : Rounds.Schedule (GSem nD τ sig) (Fin 3) 𝕄 where
  duties g r := if r = 0 ∧ g.1.2 = .tc then semDuties g.2 else ∅
  unitless _ := False
  amount g _ _ := semAmt g.2
  payload g _ d := semPay m g.1.1 g.2 d
  amount_pos g _ _ _ := by
    cases g.2 with
    | reg _ => exact Nat.one_pos
    | dma q => exact dmaAmt_pos q

omit [FloatOps F] in
instance barPay_storable (t : Dev nD) (k : Fin 3) : BI.Storable (upEmb : UEmb _ 𝕄) (barPay (F := F) t k) := by unfold barPay; infer_instance
instance dmaPay_storable (c : Dev nD) (q : DmaSem sig) : BI.Storable (upEmb : UEmb _ 𝕄) (dmaPay m c q) := by
  unfold dmaPay sendPay recvPay xinPay winPay outPay
  (repeat' split) <;> infer_instance

instance Rd_payload_storable (g : GSem nD τ sig) (r : ℕ) (d : Fin 3) :
    BI.Storable (upEmb : UEmb _ 𝕄) ((Rd (F := F) m).payload g r d) := by
  show BI.Storable upEmb (semPay m g.1.1 g.2 d)
  cases g.2 with
  | reg _ => exact barPay_storable _ _
  | dma q => exact dmaPay_storable _ _ _

section Sched
variable (c : Dev nD)

theorem duties_bar : (Rd m).duties (barCell c) 0 = Finset.univ := by dsimp only [Rd]; exact if_pos ⟨rfl, rfl⟩
theorem duties_dma (q : DmaSem sig) : (Rd m).duties (dmaCell c q) 0 = {0} := by dsimp only [Rd]; exact if_pos ⟨rfl, rfl⟩
theorem duties_later (g : GSem nD τ sig) : ∀ r, 1 ≤ r → (Rd m).duties g r = ∅ :=
  fun r hr => if_neg fun h => by omega

theorem expect_bar : (Rd m).expect (barCell c) 0 = 3 := by
  unfold Schedule.expect Schedule.amountOf
  rw [duties_bar]; rfl
theorem expect_dma (q : DmaSem sig) : (Rd m).expect (dmaCell c q) 0 = dmaAmt q := by
  unfold Schedule.expect Schedule.amountOf; rw [duties_dma, Finset.sum_singleton]; rfl

/-- What a device holds after its barrier wait: from each other device, the slot its copy there fills. -/
theorem rest_bar : bigSep ((Rd m).duties (barCell c) 0 \ ∅) (fun d => (Rd m).payload (barCell c) 0 d)
    = iprop(barPay (F := F) c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_dma (q : DmaSem sig) : bigSep ((Rd m).duties (dmaCell c q) 0 \ ∅) (fun d => (Rd m).payload (dmaCell c q) 0 d) = dmaPay m c q := by
  rw [Finset.sdiff_empty, duties_dma, bigSep_singleton]; rfl

theorem dmaPay_snd (k : Fin 3) : dmaPay m c (sndS k) = sendPay m c k := by unfold dmaPay; exact dif_pos k.isLt
theorem dmaPay_rcv (j : Fin 3) : dmaPay m c (rcvS j) = recvPay m c j := by
  unfold dmaPay; fin_cases j <;> rfl
theorem dmaPay_xin : dmaPay m c xinS = xinPay m c := rfl
theorem dmaPay_win : dmaPay m c winS = winPay m c := rfl
theorem dmaPay_out : dmaPay m c outS = outPay m c := rfl

end Sched

theorem dmaAmt_snd (k : Fin 3) : dmaAmt (sndS k) = Nb := by fin_cases k <;> rfl
theorem dmaAmt_rcv (j : Fin 3) : dmaAmt (rcvS j) = Nb := by fin_cases j <;> rfl

/-! ## What each device owes at launch, and the order of the semaphores -/

/-- The unit device `c` owes the barrier of `tgt s c`, and the credit its copy `k` owes the slot it fills. -/
def barDue (s : Fin 3) (c : Dev nD) : CellTallies nD τ sig Unit := tallyAt (barCell (tgt s c)) () 1
def sendDue (k : Fin 3) (c : Dev nD) : CellTallies nD τ sig Unit := tallyAt (dmaCell (tgt k c) (rcvS k.rev)) () Nb

/-- What is still owed before each copy, then before each signal: each step pays the last summand. -/
def owe2 (c : Dev nD) : CellTallies nD τ sig Unit := 0 + sendDue 2 c
def owe1 (c : Dev nD) : CellTallies nD τ sig Unit := owe2 c + sendDue 1 c
def owe0 (c : Dev nD) : CellTallies nD τ sig Unit := owe1 c + sendDue 0 c
def sig2 (c : Dev nD) : CellTallies nD τ sig Unit := owe0 c + barDue 2 c
def sig1 (c : Dev nD) : CellTallies nD τ sig Unit := sig2 c + barDue 1 c
def O₀ (c : Dev nD) : CellTallies nD τ sig Unit := sig1 c + barDue 0 c

def L (g : GSem nD τ sig) : Finset Unit := if g.1.2 = .tc then {()} else ∅
/-- The barrier is below the arrivals; everything else is below both. -/
def semLv : SemLoc sig → ℕ
  | .reg _ => 1
  | .dma q => if 3 ≤ q.val ∧ q.val < 6 then 2 else 0
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl
theorem lv_rcv (d : Dev nD) (j : Fin 3) (u : Unit) : lv (dmaCell d (rcvS j)) u = 2 := by
  show semLv (.dma (rcvS j)) = 2
  fin_cases j <;> rfl

/-- The copies' dues are on arrival semaphores only. -/
theorem owe0_pos {c : Dev nD} {g : GSem nD τ sig} {u : Unit} (h : 0 < owe0 c g u) :
    ∃ d j, g = dmaCell d (rcvS j) := by
  unfold owe0 owe1 owe2 sendDue at h
  rw [zero_add, Pi.add_apply, Finsupp.add_apply, Pi.add_apply, Finsupp.add_apply, tallyAt_apply, tallyAt_apply, tallyAt_apply] at h
  by_contra hn
  have hne (d : Dev nD) (j : Fin 3) : ¬ (g = dmaCell d (rcvS j) ∧ u = ()) := fun h' => hn ⟨d, j, h'.1⟩
  rw [if_neg (hne _ _), if_neg (hne _ _), if_neg (hne _ _)] at h
  exact Nat.lt_irrefl 0 h

omit [FloatOps F] in
/-- A device owing its copies may wait on any semaphore below the arrivals. -/
theorem mayWait_low (c : Dev nD) (sm : SemLoc sig) (h : semLv sm ≤ 1) :
    (levAts L lv : sProp 𝕄) ⊢ MayWait (c : Thread nD τ) sm () (owe0 c) :=
  MayOwe.of_cut (L := L) (lev := lv) 1 (fun p hp => by rw [Finset.mem_singleton.mp hp, L_tc]; exact Finset.mem_singleton_self _)
    (fun g u hg => by obtain ⟨d, j, rfl⟩ := owe0_pos hg; exact Finset.mem_singleton_self _)
    (fun p hp => by rw [Finset.mem_singleton.mp hp]; exact h)
    (fun g u hg => by obtain ⟨d, j, rfl⟩ := owe0_pos hg; rw [lv_rcv]; decide)

omit [FloatOps F] in
/-- A device owing nothing may wait on any semaphore. -/
theorem mayWait_none (c : Dev nD) (sm : SemLoc sig) : (levAts L lv : sProp 𝕄) ⊢ MayWait (c : Thread nD τ) sm () 0 := by
  rw [MayWait_zero]; iintro -; iempintro

end Cert.Exchange
-- ==== Proof.Steps.lean ====
/-
One rule per kind of effect the kernel has, under the protocol of Proof/Protocol.lean: a signal, the barrier wait, a
local copy, an addressed copy, a wait for a transfer, and the reads of an arrived slot. Each is stated once for every
device and every semaphore; the offsets and devices the program computes enter as equations.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The records every device reads -/

/-- A device's semaphore, as the exchange's cells are indexed. -/
abbrev kcell (p : Dev nD × SemLoc sig) : GSem nD τ sig := ((p.1 : Thread nD τ), p.2)

/-- Every cell's invariant, and that every cell is in its round. -/
def records (K : Dev nD × SemLoc sig → ℕ) : sProp 𝕄 :=
  iprop((bigSep Finset.univ fun p => cellInv ER (Rd m) (K p) (kcell p)) ∗ (bigSep Finset.univ fun p => reached ER (kcell p) 0))

instance records_persistent (K : Dev nD × SemLoc sig → ℕ) : BI.Persistent (records m K) := by unfold records; infer_instance

theorem records_cell (K : Dev nD × SemLoc sig → ℕ) (c : Dev nD) (sm : SemLoc sig) :
    records m K ⊢ cellInv ER (Rd m) (K (c, sm)) ((c : Thread nD τ), sm) := by
  unfold records
  iintro ⟨H, -⟩
  iapply (show _ ⊢ (_ : sProp 𝕄) from bigSep_elim (Finset.mem_univ (c, sm)) (Φ := fun p => cellInv ER (Rd m) (K p) (kcell p))); iexact H
theorem records_reached (K : Dev nD × SemLoc sig → ℕ) (c : Dev nD) (sm : SemLoc sig) :
    records m K ⊢ reached ER ((c : Thread nD τ), sm) 0 := by
  unfold records
  iintro ⟨-, H⟩
  iapply (show _ ⊢ (_ : sProp 𝕄) from bigSep_elim (Finset.mem_univ (c, sm)) (Φ := fun p => (reached ER (kcell p) 0 : sProp 𝕄))); iexact H

/-- What a device still owes, whatever it has waited on. -/
def owing (c : Dev nD) (O : CellTallies nD τ sig Unit) : sProp 𝕄 := iprop(∃ W, owes (c : Thread nD τ) O W)

/-- A weakest precondition of device `c`'s program. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × SemLoc sig → ℕ)

/-! ## The barrier -/

omit [FloatOps F] in
/-- What device `c`'s signal to `tgt s c` hands over, seen from `c`: slot `s` of its own receive buffer. -/
theorem barPay_tgt (s : Fin 3) (c : Dev nD) : barPay (F := F) (tgt s c) s.rev = iprop(∃ f, slotPts c s f) := by
  unfold barPay; rw [tgt_rev_tgt, Fin.rev_rev]

/-- A signal pays one unit of the barrier of the device `s + 1` places on, handing over slot `s`. -/
theorem step_signal (s : Fin 3) (c n : Dev nD) (hn : n = tgt s c) (sem : Sem sig) (hsem : sem = barS) (k' : ℕ) (hk' : 1 = k')
    (O₁ O : CellTallies nD τ sig Unit) (hO : O₁ = O + barDue s c)
    {α : Type} {Q : α → sProp 𝕄} {k : PUnit → Prog (TpuEff nD τ sig (Elt F) Λ₀ .tc) α} :
    iprop(records m K ∗ owing c O₁ ∗ dutyTok ER (barCell (tgt s c)) 0 s.rev ∗ (∃ f, slotPts c s f))
      ⊢ iprop((owing c O -∗ run c (k ⟨⟩) Q) -∗ run c (.op (.semSignal (n : Thread nD τ) sem k') k) Q) := by
  subst hn hsem hk'
  unfold owing
  iintro ⟨#HR, ⟨%W, HO⟩, Ht, Hs⟩ Hk
  iapply (Rounds.wp_signal 𝒱₀ ER (Rd m) (c : Thread nD τ) none (dst := (tgt s c : Thread nD τ)) (κ := K (tgt s c, .reg barS))
      (d := s.rev) (by rw [duties_bar]; exact Finset.mem_univ _) rfl () (O₀ := O₁) O (by rw [hO]; rfl)) $$ [HO Ht Hs]
  · isplitr; · iapply (records_cell m K); iexact HR
    isplitl [HO]; · iexact HO
    isplitl [Ht]; · iexact Ht
    isplitl [Hs]
    · iapply (Entails.of_eq (show iprop(∃ f, slotPts c s f) = (Rd m).payload (barCell (tgt s c)) 0 s.rev from (barPay_tgt s c).symm)); iexact Hs
    · iapply (records_reached m K); iexact HR
  iintro HO
  iapply Hk
  iexists W; iexact HO

/-- The wait for all three units returns the barrier's counter and the three slots the device's copies fill. -/
theorem step_barrier (c : Dev nD) (sem : Sem sig) (hsem : sem = barS) (k' : ℕ) (hk' : 3 = k')
    {α : Type} {Q : α → sProp 𝕄} {k : PUnit → Prog (TpuEff nD τ sig (Elt F) Λ₀ .tc) α} :
    iprop(records m K ∗ levAts L lv ∗ cred (tallyAt (barCell c) () 3) ∗ owing c (owe0 c) ∗ atPos ER (barCell c) 0 ∅ 0)
      ⊢ iprop(((owing c (owe0 c) ∗ semVal (barCell c) 0 ∗ barPay c 0 ∗ barPay c 1 ∗ barPay c 2) -∗ run c (k ⟨⟩) Q)
          -∗ run c (.op (.semWait sem k') k) Q) := by
  subst hsem hk'
  unfold owing
  iintro ⟨#HR, #Hlev, Hc, ⟨%W, HO⟩, Hat⟩ Hk
  iapply (Rounds.wp_wait_rest_token 𝒱₀ ER (Rd m) (c : Thread nD τ) none (κ := K (c, .reg barS))
      (wpE_semWait_eq 𝒱₀ (c : Thread nD τ) none Set.univ) (Set.mem_univ _) () (O := owe0 c) (W := W) (R := 0) (m := 0) (T := ∅)
      (by rw [expect_bar])) $$ [Hc HO Hat]
  · isplitr; · iapply (records_cell m K); iexact HR
    isplitl [Hc]; · iexact Hc
    isplitl [HO]; · iexact HO
    isplitr; · iapply (mayWait_low c (.reg barS) (le_refl 1)); iexact Hlev
    iexact Hat
  iintro ⟨HO, Hat, -, Hpay⟩
  ihave Hp := (Entails.of_eq (rest_bar m c)) $$ Hpay
  imod (Rounds.cell_close ER (Rd m) (Set.mem_univ (K (c, .reg barS))) (fun h => h) (R := 0 + 1) (duties_later m (barCell c))) $$ [Hat] with Hz
  · isplitr; · iapply (records_cell m K); iexact HR
    iexact Hat
  iapply Hk
  isplitl [HO]; · iexists _; iexact HO
  isplitl [Hz] <;> iassumption

/-! ## Transfers -/

/-- A wait for the transfer on semaphore `q` returns its counter and what the transfer hands over. -/
theorem step_wait (c : Dev nD) (q sem : DmaSem sig) (hsem : sem = q) (O : CellTallies nD τ sig Unit)
    (hw : (levAts L lv : sProp 𝕄) ⊢ MayWait (c : Thread nD τ) (.dma q) () O)
    {sp sp' : Space} {s s' : Shape} {e e' : EltTy} {src : Memref sig .tc sp' s' e'} {dst : Memref sig .tc sp s e}
    {hsrc : src.view.WordExact} {hdst : dst.view.WordExact} (hN : dst.view.dmaCredit = dmaAmt q)
    {α : Type} {Q : α → sProp 𝕄} {k : PUnit → Prog (TpuEff nD τ sig (Elt F) Λ₀ .tc) α} :
    iprop(records m K ∗ levAts L lv ∗ cred (tallyAt (dmaCell c q) () (dmaAmt q)) ∗ owing c O ∗ atPos ER (dmaCell c q) 0 ∅ 0)
      ⊢ iprop(((owing c O ∗ semVal (dmaCell c q) 0 ∗ dmaPay m c q) -∗ run c (k ⟨⟩) Q)
          -∗ run c (.op (.waitDma2 sem src dst hsrc hdst) k) Q) := by
  subst hsem
  unfold owing
  iintro ⟨#HR, #Hlev, Hc, ⟨%W, HO⟩, Hat⟩ Hk
  rw [← hN]
  iapply (Rounds.wp_wait_rest_token 𝒱₀ ER (Rd m) (c : Thread nD τ) none (κ := K (c, .dma sem))
      (wpE_waitDma2_eq 𝒱₀ (c : Thread nD τ) none Set.univ) (Set.mem_univ _) () (O := O) (W := W) (R := 0) (m := 0) (T := ∅)
      (by rw [Nat.zero_add, expect_dma, hN])) $$ [Hc HO Hat]
  · isplitr; · iapply (records_cell m K); iexact HR
    isplitl [Hc]; · iexact Hc
    isplitl [HO]; · iexact HO
    isplitr; · iapply hw; iexact Hlev
    iexact Hat
  iintro ⟨HO, Hat, -, Hpay⟩
  ihave Hp := (Entails.of_eq (rest_dma m c sem)) $$ Hpay
  imod (Rounds.cell_close ER (Rd m) (Set.mem_univ (K (c, .dma sem))) (fun h => h) (R := 0 + 1) (duties_later m (dmaCell c sem))) $$ [Hat] with Hz
  · isplitr; · iapply (records_cell m K); iexact HR
    iexact Hat
  iapply Hk
  isplitl [HO]; · iexists _; iexact HO
  isplitl [Hz] <;> iassumption

/-- A local copy on semaphore `q` gives the credit to wait for it. -/
theorem step_copy (c : Dev nD) (q sem : DmaSem sig) (hsem : sem = q)
    {sp sp' : Space} {s : Shape} {e : EltTy} {src : Memref sig .tc sp s e} {dst : Memref sig .tc sp' s e}
    {hsrc : src.view.WordExact} {hdst : dst.view.WordExact} {ht : DmaTarget.Typed (nD := nD) (τ := τ) (p := .tc) sp (.dma sem) (.here dst)}
    (hN : dst.view.dmaCredit = dmaAmt q)
    (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ dmaPay m c q)
    {α : Type} {Q : α → sProp 𝕄} {k : PUnit → Prog (TpuEff nD τ sig (Elt F) Λ₀ .tc) α} :
    iprop(records m K ∗ (src.view.loc (c : Thread nD τ) ↦[src.view.set]{fullShare} fs) ∗ (dst.view.loc (c : Thread nD τ) ↦[dst.view.set]{fullShare} fd)
        ∗ dutyTok ER (dmaCell c q) 0 0)
      ⊢ iprop((cred (tallyAt (dmaCell c q) () (dmaAmt q)) -∗ run c (k ⟨⟩) Q)
          -∗ run c (.op (.enqueueDma src (.here dst) (.dma sem) hsrc hdst ht) k) Q) := by
  subst hsem
  iintro ⟨#HR, Hs, Hd, Ht⟩
  iapply (Rounds.wp_copy_pointsTo 𝒱₀ ER (Rd m) (c : Thread nD τ) none (κ := K (c, .dma sem)) (sem := .dma sem) (r := 0) (d := 0) (fs := fs) (fd := fd)
    (by rw [duties_dma]; exact Finset.mem_singleton_self _) () (dmaAmt sem) hN rfl hpay)
  isplitr; · iapply (records_cell m K); iexact HR
  isplitl [Hs]; · iexact Hs
  isplitl [Hd]; · iexact Hd
  isplitl [Ht]; · iexact Ht
  iapply (records_reached m K); iexact HR

/-- Copy `k`: the rows of the target go to the slot the target handed over; the copy's due is paid. -/
theorem step_send (k₀ : Fin 3) (c n : Dev nD) (hn : n = tgt k₀ c)
    (off : Fin 2 → ℕ) (inb : ∀ a, off a + S256x256.size a ≤ S1024x256.size a) (hoff : off = ![256 * (tgt k₀ c).val, 0])
    (offD : Fin 3 → ℕ) (inbD : ∀ a, offD a + S1x256x256.size a ≤ S3x256x256.size a) (hoffD : offD = ![k₀.rev.val, 0, 0])
    (semS semR : DmaSem sig) (hsemS : semS = sndS k₀) (hsemR : semR = rcvS k₀.rev)
    (O₁ O : CellTallies nD τ sig Unit) (hO : O₁ = O + sendDue k₀ c)
    {hsc : (((cM.slice (Rect.unit (s := S3x256x256) offD S1x256x256.size inbD) (fun _ => rfl)).squeeze S256x256 squeezes_S1x256x256_S256x256 :
      Memref sig (Dev.tc n : Thread nD τ).2.kind .vmem S256x256 .bf16)).view.ref.isScScratch = false}
    {hsrc : (bM.slice (Rect.unit (s := S1024x256) off S256x256.size inb) (fun _ => rfl) : Memref sig .tc .vmem S256x256 .bf16).view.WordExact}
    {hdst : ((cM.slice (Rect.unit (s := S3x256x256) offD S1x256x256.size inbD) (fun _ => rfl)).squeeze S256x256 squeezes_S1x256x256_S256x256 :
      Memref sig (Dev.tc n : Thread nD τ).2.kind .vmem S256x256 .bf16).view.WordExact}
    {ht : DmaTarget.Typed .vmem (.dma semR) (.remote (Dev.tc n : Thread nD τ)
      ((cM.slice (Rect.unit (s := S3x256x256) offD S1x256x256.size inbD) (fun _ => rfl)).squeeze S256x256 squeezes_S1x256x256_S256x256) (.dma semS) hsc)}
    {α : Type} {Q : α → sProp 𝕄} {k : PUnit → Prog (TpuEff nD τ sig (Elt F) Λ₀ .tc) α} :
    iprop(records m K ∗ rowPts c (tgt k₀ c) (xbf m c) ∗ barPay c k₀ ∗ owing c O₁
        ∗ dutyTok ER (dmaCell c (sndS k₀)) 0 0 ∗ dutyTok ER (dmaCell (tgt k₀ c) (rcvS k₀.rev)) 0 0)
      ⊢ iprop(((cred (tallyAt (dmaCell c (sndS k₀)) () (dmaAmt (sndS k₀))) ∗ owing c O) -∗ run c (k ⟨⟩) Q)
          -∗ run c (.op (.enqueueDma (bM.slice (Rect.unit (s := S1024x256) off S256x256.size inb) (fun _ => rfl))
              (.remote (Dev.tc n : Thread nD τ)
                ((cM.slice (Rect.unit (s := S3x256x256) offD S1x256x256.size inbD) (fun _ => rfl)).squeeze S256x256 squeezes_S1x256x256_S256x256)
                (.dma semS) hsc) (.dma semR) hsrc hdst ht) k) Q) := by
  subst hn hoff hoffD hsemS hsemR
  unfold owing barPay
  rw [dmaAmt_snd]
  iintro ⟨#HR, Hs, ⟨%f, Hd⟩, ⟨%W, HO⟩, HtS, HtR⟩ Hk
  iapply (Rounds.wp_send_pointsTo 𝒱₀ ER (Rd m) (c : Thread nD τ) none (c' := (tgt k₀ c : Thread nD τ)) (src := srcM (tgt k₀ c)) (dst := slotM k₀.rev)
      (κ₁ := K (c, .dma (sndS k₀))) (κ₂ := K (tgt k₀ c, .dma (rcvS k₀.rev)))
      (r₁ := 0) (r₂ := 0) (d₁ := 0) (d₂ := 0) (fd := f) (fs := xbf m c)
      (by rw [duties_dma]; exact Finset.mem_singleton_self _) (by rw [duties_dma]; exact Finset.mem_singleton_self _)
      () () Nb (sem := .dma (rcvS k₀.rev)) (sS := .dma (sndS k₀)) (O₀ := O₁) (Nb_slot _) (dmaAmt_snd k₀) (dmaAmt_rcv k₀.rev) O (by rw [hO]; rfl) (W := W)
      (show _ ⊢ dmaPay m c (sndS k₀) from by rw [dmaPay_snd]; exact BI.Entails.refl _)
      (show _ ⊢ dmaPay m (tgt k₀ c) (rcvS k₀.rev) from by
        rw [dmaPay_rcv]; unfold recvPay
        refine (owns_intro (tgt k₀ c : Thread nD τ) (slotM k₀.rev) fullShare _).trans (Entails.of_eq ?_)
        rw [View.read_write_univ]; unfold blk; rw [tgt_rev_tgt])) $$ [Hs Hd HO HtS HtR]
  · isplitr; · iapply (records_cell m K); iexact HR
    isplitr; · iapply (records_cell m K); iexact HR
    isplitl [Hs]; · iexact Hs
    isplitl [Hd]; · iexact Hd
    isplitl [HO]; · iexact HO
    isplitl [HtS]; · iexact HtS
    isplitr; · iapply (records_reached m K); iexact HR
    isplitl [HtR]; · iexact HtR
    iapply (records_reached m K); iexact HR
  iintro ⟨Hc, HO⟩
  iapply Hk
  isplitl [Hc]; · iexact Hc
  iexists W; iexact HO

/-! ## Reads -/

/-- The set of a slot's elements in the receive buffer. -/
theorem slot_set (j : Fin 3) : (slotM j).view.set = (slotR j).set := by
  rw [show (slotM j).view.set = (cM.slice (slotR j) (fun _ => rfl) : Memref sig .tc .vmem S1x256x256 .bf16).view.set from View.set_reshape _ _]
  exact View.set_slice_whole _ _
/-- The set of a device's rows in the rounded `x`. -/
theorem row_set (t : Dev nD) : (srcM t).view.set = (rowR t).set := View.set_slice_whole _ _

/-- Reading an arrived slot, as the program does, gives the block that was sent. -/
theorem step_load_slot (c : Dev nD) (j : Fin 3) (off : Fin 3 → ℕ) (inb : ∀ a, off a + S1x256x256.size a ≤ S3x256x256.size a)
    (hoff : off = ![j.val, 0, 0]) {hl : cM.view.LoadsAt (Rect.unit (s := S3x256x256) off S1x256x256.size inb).toLoadRect}
    {α : Type} {Q : α → sProp 𝕄} {k : (S1x256x256.Idx → Elt F .bf16) → Prog (TpuEff nD τ sig (Elt F) Λ₀ .tc) α} :
    recvPay m c j
      ⊢ iprop((∀ v, iprop(⌜shapeCast S256x256 v shapeCasts_S1x256x256_S256x256 = blk m j c⌝ -∗ recvPay m c j -∗ run c (k v) Q))
          -∗ run c (.op (.load cM (Rect.unit (s := S3x256x256) off S1x256x256.size inb).toLoadRect hl) k) Q) := by
  subst hoff
  unfold recvPay owns
  iintro ⟨%f, %hf, H⟩ Hk
  iapply (wp_load 𝒱₀ (c : Thread nD τ) none Set.univ (m := cM) (S := (slotM j).view.set)
    (by rw [slot_set]; intro x hx; obtain ⟨y, hy, rfl⟩ := Finset.mem_map.mp hx; exact hy)) $$ H
  iintro H
  iapply Hk $$ [] [H]
  · ipureintro
    exact hf
  · iexists f; isplitr; · ipureintro; exact hf
    iexact H

/-- Reading a device's rows of `w`. -/
theorem read_wrow (c t : Dev nD) (off : Fin 2 → ℕ) (inb : ∀ a, off a + S256x1024.size a ≤ S1024x1024.size a) (hoff : off = ![256 * t.val, 0]) :
    wM.view.readAt (Elt F) (Rect.unit (s := S1024x1024) off S256x1024.size inb).toLoadRect (wv m c) = wRows m c t := by subst hoff; rfl
/-- Reading a device's rows of `x`. -/
theorem read_xrow (c t : Dev nD) (off : Fin 2 → ℕ) (inb : ∀ a, off a + S256x256.size a ≤ S1024x256.size a) (hoff : off = ![256 * t.val, 0]) :
    xM.view.readAt (Elt F) (Rect.unit (s := S1024x256) off S256x256.size inb).toLoadRect (xv m c) = xRows m c t := by subst hoff; rfl

/-! ## The two buffers cut into pieces -/

/-- The receive buffer is its three slots. -/
theorem slots_split (c : Dev nD) (f : Buf (Elt F) ((c : Thread nD τ).loc cc0_scratch4)) :
    whole c cc0_scratch4 f ⊢ iprop(slotPts c 0 f ∗ slotPts c 1 f ∗ slotPts c 2 f : sProp 𝕄) := by
  have h := Ring.pointsTo_blocks (Ix := Unit) (Name := ℕ) (U := UU) (Lvl := ℕ) (Val := Elt F) (ℓ := (c : Thread nD τ).loc cc0_scratch4) (q := fullShare)
    (fun j : Fin 3 => (slotR j).set)
    (Ring.lead_disjoint (s := S3x256x256) (0 : Fin 3) 1 (fun j : Fin 3 => ![j.val, 0, 0]) S1x256x256.size inb_slot (fun j => by simp) rfl)
    (Ring.lead_cover (s := S3x256x256) (0 : Fin 3) 1 (fun j : Fin 3 => ![j.val, 0, 0]) S1x256x256.size inb_slot (fun j => by simp) (by decide) rfl (by decide) rfl) f
  rw [bigSep_univ_eq_bigSepL [0, 1, 2] (by decide) (by decide), bigSepL_cons_cons, bigSepL_cons_cons, bigSepL_singleton] at h
  show _ ⊢ iprop(((c : Thread nD τ).loc cc0_scratch4 ↦[(slotM 0).view.set]{fullShare} f) ∗ ((c : Thread nD τ).loc cc0_scratch4 ↦[(slotM 1).view.set]{fullShare} f)
    ∗ ((c : Thread nD τ).loc cc0_scratch4 ↦[(slotM 2).view.set]{fullShare} f))
  rw [slot_set, slot_set, slot_set]
  exact Entails.of_eq h

/-- Three slots, each at some contents, are the receive buffer at some contents. -/
theorem slots_join (c : Dev nD) :
    iprop((∃ f, slotPts c 0 f) ∗ (∃ f, slotPts c 1 f) ∗ (∃ f, slotPts c 2 f)) ⊢ iprop(∃ f, whole c cc0_scratch4 f : sProp 𝕄) := by
  have h (f₀ : Buf (Elt F) ((c : Thread nD τ).loc cc0_scratch4)) := Ring.pointsTo_blocks_join_exists (Ix := Unit) (Name := ℕ) (U := UU) (Lvl := ℕ) (Val := Elt F) (ℓ := (c : Thread nD τ).loc cc0_scratch4) (q := fullShare)
    (fun j : Fin 3 => (slotR j).set)
    (Ring.lead_disjoint (s := S3x256x256) (0 : Fin 3) 1 (fun j : Fin 3 => ![j.val, 0, 0]) S1x256x256.size inb_slot (fun j => by simp) rfl)
    (Ring.lead_cover (s := S3x256x256) (0 : Fin 3) 1 (fun j : Fin 3 => ![j.val, 0, 0]) S1x256x256.size inb_slot (fun j => by simp) (by decide) rfl (by decide) rfl) f₀
  simp only [bigSep_univ_eq_bigSepL (I := Fin 3) [0, 1, 2] (by decide) (by decide), bigSepL_cons_cons, bigSepL_singleton] at h
  show iprop((∃ f, ((c : Thread nD τ).loc cc0_scratch4 ↦[(slotM 0).view.set]{fullShare} f)) ∗ (∃ f, ((c : Thread nD τ).loc cc0_scratch4 ↦[(slotM 1).view.set]{fullShare} f))
    ∗ (∃ f, ((c : Thread nD τ).loc cc0_scratch4 ↦[(slotM 2).view.set]{fullShare} f))) ⊢ _
  rw [slot_set, slot_set, slot_set]
  iintro ⟨⟨%f, H0⟩, H1, H2⟩
  iapply (show iprop((∃ f, ((c : Thread nD τ).loc cc0_scratch4 ↦[(slotR 0).set]{fullShare} f)) ∗ (∃ f, ((c : Thread nD τ).loc cc0_scratch4 ↦[(slotR 1).set]{fullShare} f))
    ∗ (∃ f, ((c : Thread nD τ).loc cc0_scratch4 ↦[(slotR 2).set]{fullShare} f))) ⊢ _ from h f)
  isplitl [H0]; · iexists f; iexact H0
  isplitl [H1] <;> iassumption

theorem four_univ (c : Dev nD) : (Finset.univ : Finset (Dev nD)) = [c, tgt 0 c, tgt 1 c, tgt 2 c].toFinset := by revert c; decide
theorem four_nodup (c : Dev nD) : [c, tgt 0 c, tgt 1 c, tgt 2 c].Nodup := by revert c; decide

/-- The rounded `x` is its device's own rows and the rows of the three others. -/
theorem rows_eq (c : Dev nD) (f : Buf (Elt F) ((c : Thread nD τ).loc cc0_scratch3)) :
    whole c cc0_scratch3 f = iprop(rowPts c c f ∗ rowPts c (tgt 0 c) f ∗ rowPts c (tgt 1 c) f ∗ rowPts c (tgt 2 c) f : sProp 𝕄) := by
  have h := Ring.pointsTo_blocks (Ix := Unit) (Name := ℕ) (U := UU) (Lvl := ℕ) (Val := Elt F) (ℓ := (c : Thread nD τ).loc cc0_scratch3) (q := fullShare)
    (fun t : Fin 4 => (rowR t).set)
    (Ring.lead_disjoint (s := S1024x256) (0 : Fin 2) 256 (fun t : Fin 4 => ![256 * t.val, 0]) S256x256.size inb_row (fun j => by simp) rfl)
    (Ring.lead_cover (s := S1024x256) (0 : Fin 2) 256 (fun t : Fin 4 => ![256 * t.val, 0]) S256x256.size inb_row (fun j => by simp) (by decide) rfl (by decide) rfl) f
  rw [bigSep_univ_eq_bigSepL [c, tgt 0 c, tgt 1 c, tgt 2 c] (four_univ c) (four_nodup c), bigSepL_cons_cons, bigSepL_cons_cons, bigSepL_cons_cons, bigSepL_singleton] at h
  show _ = iprop(((c : Thread nD τ).loc cc0_scratch3 ↦[(srcM c).view.set]{fullShare} f) ∗ ((c : Thread nD τ).loc cc0_scratch3 ↦[(srcM (tgt 0 c)).view.set]{fullShare} f)
    ∗ ((c : Thread nD τ).loc cc0_scratch3 ↦[(srcM (tgt 1 c)).view.set]{fullShare} f) ∗ ((c : Thread nD τ).loc cc0_scratch3 ↦[(srcM (tgt 2 c)).view.set]{fullShare} f))
  rw [row_set, row_set, row_set, row_set]
  exact h

end Cert.Exchange
-- ==== Proof.Body.lean ====
/-
The kernel's body on a symbolic device, run once through the rules of Proof/Steps.lean: from the device's share of the
exchange, its three arrays and its scratch buffers, to its result written, its inputs as they were and every
semaphore back at zero.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device starts from and ends with -/

/-- A device's positions: round 0 of each of its ten semaphores. -/
def positions (c : Dev nD) : sProp 𝕄 :=
  iprop(atPos ER (barCell c) 0 ∅ 0
    ∗ atPos ER (dmaCell c (sndS 0)) 0 ∅ 0 ∗ atPos ER (dmaCell c (sndS 1)) 0 ∅ 0 ∗ atPos ER (dmaCell c (sndS 2)) 0 ∅ 0
    ∗ atPos ER (dmaCell c (rcvS 0)) 0 ∅ 0 ∗ atPos ER (dmaCell c (rcvS 1)) 0 ∅ 0 ∗ atPos ER (dmaCell c (rcvS 2)) 0 ∅ 0
    ∗ atPos ER (dmaCell c xinS) 0 ∅ 0 ∗ atPos ER (dmaCell c winS) 0 ∅ 0 ∗ atPos ER (dmaCell c outS) 0 ∅ 0)

/-- The payments a device makes: a unit on each other device's barrier, an arrival on each other device, a departure
    each, and its three local copies. -/
def payments (c : Dev nD) : sProp 𝕄 :=
  iprop((dutyTok ER (barCell (tgt 0 c)) 0 2 ∗ dutyTok ER (barCell (tgt 1 c)) 0 1 ∗ dutyTok ER (barCell (tgt 2 c)) 0 0)
    ∗ (dutyTok ER (dmaCell (tgt 0 c) (rcvS 2)) 0 0 ∗ dutyTok ER (dmaCell (tgt 1 c) (rcvS 1)) 0 0 ∗ dutyTok ER (dmaCell (tgt 2 c) (rcvS 0)) 0 0)
    ∗ (dutyTok ER (dmaCell c (sndS 0)) 0 0 ∗ dutyTok ER (dmaCell c (sndS 1)) 0 0 ∗ dutyTok ER (dmaCell c (sndS 2)) 0 0)
    ∗ (dutyTok ER (dmaCell c xinS) 0 0 ∗ dutyTok ER (dmaCell c winS) 0 0 ∗ dutyTok ER (dmaCell c outS) 0 0))

/-- The exchange's ghost state of a device. -/
def ghost (K : Dev nD × SemLoc sig → ℕ) (c : Dev nD) : sProp 𝕄 := iprop(records m K ∗ positions c ∗ payments c)

/-- The credit a device waits with: its barrier's three units and its three arrivals. -/
def credits (c : Dev nD) : sProp 𝕄 :=
  iprop(cred (tallyAt (barCell c) () 3) ∗ cred (tallyAt (dmaCell c (rcvS 0)) () Nb) ∗ cred (tallyAt (dmaCell c (rcvS 1)) () Nb) ∗ cred (tallyAt (dmaCell c (rcvS 2)) () Nb))

/-- A device's three arrays at launch. -/
def arrays (c : Dev nD) : sProp 𝕄 :=
  iprop(whole c main_arg0 (m ((c : Thread nD τ).loc main_arg0)) ∗ whole c main_arg1 (m ((c : Thread nD τ).loc main_arg1)) ∗ whole c main_v1 (m ((c : Thread nD τ).loc main_v1)))

/-- A device's three arrays at the end: the inputs as at launch, and the result. -/
def results (c : Dev nD) : sProp 𝕄 :=
  iprop(whole c main_arg0 (xv m c) ∗ whole c main_arg1 (wv m c) ∗ whole c main_v1 (out m c))

/-- The scratch buffers, at any contents. -/
def scratch (c : Dev nD) : sProp 𝕄 :=
  iprop((∃ f, whole c cc0_scratch0 f) ∗ (∃ f, whole c cc0_scratch1 f) ∗ (∃ f, whole c cc0_scratch2 f) ∗ (∃ f, whole c cc0_scratch3 f) ∗ (∃ f, whole c cc0_scratch4 f))

/-- The kernel's own semaphores at zero. -/
def idle (c : Dev nD) : sProp 𝕄 :=
  iprop((semVal (dmaCell c (sndS 0)) 0 ∗ semVal (dmaCell c (sndS 1)) 0 ∗ semVal (dmaCell c (sndS 2)) 0)
    ∗ (semVal (dmaCell c (rcvS 0)) 0 ∗ semVal (dmaCell c (rcvS 1)) 0 ∗ semVal (dmaCell c (rcvS 2)) 0)
    ∗ (semVal (dmaCell c xinS) 0 ∗ semVal (dmaCell c winS) 0 ∗ semVal (dmaCell c outS) 0))

def start (c : Dev nD) : sProp 𝕄 := iprop((∃ K, ghost m K c) ∗ credits c ∗ levAts L lv ∗ arrays m c)
def Φ₀ (c : Dev nD) : sProp 𝕄 := iprop(start m c ∗ scratch c)
def Φ₁ (c : Dev nD) : sProp 𝕄 := iprop((results m c ∗ semVal (barCell c) 0) ∗ idle c ∗ scratch c)

/-! ## Whole reads and writes -/

theorem hz : (![0, 0] : Fin 2 → Nat) = fun _ => 0 := funext fun a => by fin_cases a <;> rfl

/-- A block product added to the running sum, as the three printed steps have it. -/
theorem pay4_eq (acc : FVec F S256x1024 .f32) (v : Vec F S1x256x256 .bf16) (w : Vec F S256x1024 .f32) (b : S256x256.Idx → Elt F .bf16)
    (h : shapeCast S256x256 v shapeCasts_S1x256x256_S256x256 = b) : k0_pay4 acc v w = macc acc b w := by subst h; rfl
theorem pay5_eq (acc : FVec F S256x1024 .f32) (v : Vec F S1x256x256 .bf16) (w : Vec F S256x1024 .f32) (b : S256x256.Idx → Elt F .bf16)
    (h : shapeCast S256x256 v shapeCasts_S1x256x256_S256x256 = b) : k0_pay5 acc v w = macc acc b w := by subst h; rfl
theorem pay6_eq (acc : FVec F S256x1024 .f32) (v : Vec F S1x256x256 .bf16) (w : Vec F S256x1024 .f32) (b : S256x256.Idx → Elt F .bf16)
    (h : shapeCast S256x256 v shapeCasts_S1x256x256_S256x256 = b) : k0_pay6 acc v w = macc acc b w := by subst h; rfl

/-- A whole buffer held is its memref's points-to, and back. -/
theorem whole_set (b : Ref sig .tc) : (Memref.whole b).view.set = Finset.univ := View.set_whole b

/-- What the local copies hand over, from the points-tos the copy rule leaves. -/
theorem xin_pays (c : Dev nD) (fd : Buf (Elt F) ((c : Thread nD τ).loc cc0_scratch0)) :
    iprop((xM.view.loc (c : Thread nD τ) ↦[xM.view.set]{fullShare} (xM.view.write (Elt F) fd (xHbm.view.read (Elt F) (xv m c)) Finset.univ))
      ∗ (xHbm.view.loc (c : Thread nD τ) ↦[xHbm.view.set]{fullShare} (xv m c))) ⊢ dmaPay m c xinS := by
  rw [dmaPay_xin, whole_set, whole_set]
  rw [show xM.view.write (Elt F) fd (xHbm.view.read (Elt F) (xv m c)) Finset.univ = xv m c from View.write_whole_univ _ _ _]
  exact Entails.of_eq rfl
theorem win_pays (c : Dev nD) (fd : Buf (Elt F) ((c : Thread nD τ).loc cc0_scratch1)) :
    iprop((wM.view.loc (c : Thread nD τ) ↦[wM.view.set]{fullShare} (wM.view.write (Elt F) fd (wHbm.view.read (Elt F) (wv m c)) Finset.univ))
      ∗ (wHbm.view.loc (c : Thread nD τ) ↦[wHbm.view.set]{fullShare} (wv m c))) ⊢ dmaPay m c winS := by
  rw [dmaPay_win, whole_set, whole_set]
  rw [show wM.view.write (Elt F) fd (wHbm.view.read (Elt F) (wv m c)) Finset.univ = wv m c from View.write_whole_univ _ _ _]
  exact Entails.of_eq rfl
theorem out_pays (c : Dev nD) (fd : Buf (Elt F) ((c : Thread nD τ).loc main_v1)) :
    iprop((oHbm.view.loc (c : Thread nD τ) ↦[oHbm.view.set]{fullShare} (oHbm.view.write (Elt F) fd (oM.view.read (Elt F) (out m c)) Finset.univ))
      ∗ (oM.view.loc (c : Thread nD τ) ↦[oM.view.set]{fullShare} (out m c))) ⊢ dmaPay m c outS := by
  rw [dmaPay_out, whole_set, whole_set]
  rw [show oHbm.view.write (Elt F) fd (oM.view.read (Elt F) (out m c)) Finset.univ = out m c from View.write_whole_univ _ _ _]
  exact Entails.of_eq rfl

/-- An arrived slot is that slot at some contents. -/
theorem recvPay_any (c : Dev nD) (j : Fin 3) : recvPay m c j ⊢ iprop(∃ f, slotPts c j f) := by
  unfold recvPay owns; iintro ⟨%f, -, H⟩; iexists f; iexact H

/-- Any block of 256 rows of the rounded `x` moves the credit of a departure. -/
theorem rows_credit (o : Fin 2 → ℕ) (h : ∀ a, o a + S256x256.size a ≤ S1024x256.size a) (k : Fin 3) :
    (bM.slice (Rect.unit (s := S1024x256) o S256x256.size h) (fun _ => rfl)).view.dmaCredit = dmaAmt (sndS k) := by
  rw [dmaAmt_snd]; rfl

/-! ## The run -/

set_option maxHeartbeats 4000000 in
set_option maxRecDepth 8000 in
/-- The body, effect by effect in program order. -/
theorem sound_body (K : Dev nD × SemLoc sig → ℕ) (c : Dev nD) (Kt : PUnit → sProp 𝕄) :
    iprop((ghost m K c ∗ credits c ∗ levAts L lv ∗ arrays m c ∗ scratch c ∗ owing c (O₀ c))
        ∗ ((Φ₁ m c ∗ owing c 0) -∗ Kt ⟨⟩))
      ⊢ run c (cc0_body (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) cc0_scratch5 cc0_scratch6 cc0_scratch7 cc0_scratch8) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold ghost positions payments credits arrays scratch
  iintro ⟨⟨⟨#HR, ⟨HaB, HaS0, HaS1, HaS2, HaR0, HaR1, HaR2, HaX, HaW, HaO⟩, ⟨HtB0, HtB1, HtB2⟩, ⟨HtR0, HtR1, HtR2⟩, ⟨HtS0, HtS1, HtS2⟩, HtX, HtW, HtO⟩,
    ⟨HcB, HcR0, HcR1, HcR2⟩, #Hlev, ⟨Hx, Hw, Ho⟩, ⟨⟨%f0, Hs0⟩, ⟨%f1, Hs1⟩, ⟨%f2, Hs2⟩, ⟨%f3, Hs3⟩, ⟨%f4, Hs4⟩⟩, HO⟩, Hk⟩
  -- the copies of `x` and `w` into the scratch buffers
  iapply (step_copy m K c xinS _ rfl (src := xHbm) (dst := xM) rfl (xv m c) f0 (xin_pays m c f0)) $$ [Hx Hs0 HtX]
  · isplitr; · iexact HR
    rw [whole_set, whole_set]
    isplitl [Hx]; · iexact Hx
    isplitl [Hs0]; · iexact Hs0
    iexact HtX
  iintro HcX
  iapply (step_copy m K c winS _ rfl (src := wHbm) (dst := wM) rfl (wv m c) f1 (win_pays m c f1)) $$ [Hw Hs1 HtW]
  · isplitr; · iexact HR
    rw [whole_set, whole_set]
    isplitl [Hw]; · iexact Hw
    isplitl [Hs1]; · iexact Hs1
    iexact HtW
  iintro HcW
  -- the three signals, each handing over a slot of the receive buffer
  ihave Hsl := (slots_split c f4) $$ Hs4
  icases Hsl with ⟨Hl0, Hl1, Hl2⟩
  iapply (step_signal m K 0 c _ (dev1_eq c) _ rfl _ (by decide) (O₀ c) (sig1 c) rfl) $$ [HO HtB0 Hl0]
  · isplitr; · iexact HR
    isplitl [HO]; · iexact HO
    isplitl [HtB0]; · iexact HtB0
    iexists f4; iexact Hl0
  iintro HO
  iapply (step_signal m K 1 c _ (dev2_eq c) _ rfl _ (by decide) (sig1 c) (sig2 c) rfl) $$ [HO HtB1 Hl1]
  · isplitr; · iexact HR
    isplitl [HO]; · iexact HO
    isplitl [HtB1]; · iexact HtB1
    iexists f4; iexact Hl1
  iintro HO
  iapply (step_signal m K 2 c _ (dev3_eq c) _ rfl _ (by decide) (sig2 c) (owe0 c) rfl) $$ [HO HtB2 Hl2]
  · isplitr; · iexact HR
    isplitl [HO]; · iexact HO
    isplitl [HtB2]; · iexact HtB2
    iexists f4; iexact Hl2
  iintro HO
  -- the barrier wait: the slots its own copies fill
  iapply (step_barrier m K c _ rfl _ (by decide)) $$ [HcB HO HaB]
  · isplitr; · iexact HR
    isplitr; · iexact Hlev
    isplitl [HcB]; · iexact HcB
    isplitl [HO]; · iexact HO
    iexact HaB
  iintro ⟨HO, HzB, Hb0, Hb1, Hb2⟩
  -- `x` has come; it is rounded
  iapply (step_wait m K c xinS _ rfl (owe0 c) (mayWait_low c _ (by decide)) (dst := xM) rfl) $$ [HcX HO HaX]
  · isplitr; · iexact HR
    isplitr; · iexact Hlev
    isplitl [HcX]; · iexact HcX
    isplitl [HO]; · iexact HO
    iexact HaX
  rw [dmaPay_xin]; unfold xinPay
  iintro ⟨HO, HzX, Hs0, Hx⟩
  iapply (wp_load 𝒱₀ (c : Thread nD τ) none Set.univ (m := xM) (Finset.subset_univ _)) $$ Hs0; iintro Hs0
  rw [show xM.view.readAt (Elt F) (Rect.unit (s := S1024x256) ![0, 0] S1024x256.size inb_S1024x256_S1024x256_0_0).toLoadRect (xv m c) = xv m c from
    Memref.readAt_unit_zero (Elt F) cc0_scratch0 hz _ _]
  iapply (wp_load 𝒱₀ (c : Thread nD τ) none Set.univ (m := bM) (Finset.subset_univ _)) $$ Hs3; iintro Hs3
  iapply (wp_store 𝒱₀ (c : Thread nD τ) none Set.univ (m := bM) (r := Rect.unit (s := S1024x256) ![0, 0] S1024x256.size inb_S1024x256_S1024x256_0_0) (Mk := Finset.univ) (Finset.subset_univ _)) $$ Hs3; iintro Hs3
  rw [show (bM.access (Rect.unit (s := S1024x256) ![0, 0] S1024x256.size inb_S1024x256_S1024x256_0_0) : View sig .tc _ _ _).write (Elt F) f3 (k0_pay2 (xv m c)) Finset.univ = xbf m c from
    Memref.write_access_unit_zero_univ (Elt F) cc0_scratch3 hz _ _ _]
  ihave Hrows := (Entails.of_eq (rows_eq c (xbf m c))) $$ Hs3
  icases Hrows with ⟨Hrc, Hr0, Hr1, Hr2⟩
  -- the three copies
  iapply (step_send m K 0 c _ (dev4_eq c) _ _ (off1_1 c) _ _ rfl _ _ rfl rfl (owe0 c) (owe1 c) rfl) $$ [Hr0 Hb0 HO HtS0 HtR0]
  · isplitr; · iexact HR
    isplitl [Hr0]; · iexact Hr0
    isplitl [Hb0]; · iexact Hb0
    isplitl [HO]; · iexact HO
    isplitl [HtS0]; · iexact HtS0
    iexact HtR0
  iintro ⟨HcS0, HO⟩
  iapply (step_send m K 1 c _ (dev5_eq c) _ _ (off1_2 c) _ _ rfl _ _ rfl rfl (owe1 c) (owe2 c) rfl) $$ [Hr1 Hb1 HO HtS1 HtR1]
  · isplitr; · iexact HR
    isplitl [Hr1]; · iexact Hr1
    isplitl [Hb1]; · iexact Hb1
    isplitl [HO]; · iexact HO
    isplitl [HtS1]; · iexact HtS1
    iexact HtR1
  iintro ⟨HcS1, HO⟩
  iapply (step_send m K 2 c _ (dev6_eq c) _ _ (off1_3 c) _ _ rfl _ _ rfl rfl (owe2 c) 0 rfl) $$ [Hr2 Hb2 HO HtS2 HtR2]
  · isplitr; · iexact HR
    isplitl [Hr2]; · iexact Hr2
    isplitl [Hb2]; · iexact Hb2
    isplitl [HO]; · iexact HO
    isplitl [HtS2]; · iexact HtS2
    iexact HtR2
  iintro ⟨HcS2, HO⟩
  -- `w` has come; the device's own product
  iapply (step_wait m K c winS _ rfl 0 (mayWait_none c _) (dst := wM) rfl) $$ [HcW HO HaW]
  · isplitr; · iexact HR
    isplitr; · iexact Hlev
    isplitl [HcW]; · iexact HcW
    isplitl [HO]; · iexact HO
    iexact HaW
  rw [dmaPay_win]; unfold winPay
  iintro ⟨HO, HzW, Hs1, Hw⟩
  iapply (wp_load 𝒱₀ (c : Thread nD τ) none Set.univ (m := xM) (Finset.subset_univ _)) $$ Hs0; iintro Hs0
  iapply (wp_load 𝒱₀ (c : Thread nD τ) none Set.univ (m := wM) (Finset.subset_univ _)) $$ Hs1; iintro Hs1
  rw [read_xrow m c c _ _ (k0_off2_eq c), read_wrow m c c _ _ (k0_off3_eq c)]
  -- slot 0
  iapply (step_wait m K c (rcvS 0) _ rfl 0 (mayWait_none c _) (dst := slotM 0) rfl) $$ [HcR0 HO HaR0]
  · isplitr; · iexact HR
    isplitr; · iexact Hlev
    isplitl [HcR0]; · iexact HcR0
    isplitl [HO]; · iexact HO
    iexact HaR0
  rw [dmaPay_rcv]
  iintro ⟨HO, HzR0, Hl0⟩
  iapply (step_load_slot m c 0 _ _ rfl) $$ Hl0
  iintro %v0 %hv0 Hl0
  iapply (wp_load 𝒱₀ (c : Thread nD τ) none Set.univ (m := wM) (Finset.subset_univ _)) $$ Hs1; iintro Hs1
  rw [read_wrow m c (tgt 0 c) _ _ (off4_0 c), pay4_eq _ v0 _ _ hv0]
  -- slot 2
  iapply (step_wait m K c (rcvS 2) _ rfl 0 (mayWait_none c _) (dst := slotM 2) rfl) $$ [HcR2 HO HaR2]
  · isplitr; · iexact HR
    isplitr; · iexact Hlev
    isplitl [HcR2]; · iexact HcR2
    isplitl [HO]; · iexact HO
    iexact HaR2
  rw [dmaPay_rcv]
  iintro ⟨HO, HzR2, Hl2⟩
  iapply (step_load_slot m c 2 _ _ rfl) $$ Hl2
  iintro %v2 %hv2 Hl2
  iapply (wp_load 𝒱₀ (c : Thread nD τ) none Set.univ (m := wM) (Finset.subset_univ _)) $$ Hs1; iintro Hs1
  rw [read_wrow m c (tgt 2 c) _ _ (off4_2 c), pay5_eq _ v2 _ _ hv2]
  -- slot 1
  iapply (step_wait m K c (rcvS 1) _ rfl 0 (mayWait_none c _) (dst := slotM 1) rfl) $$ [HcR1 HO HaR1]
  · isplitr; · iexact HR
    isplitr; · iexact Hlev
    isplitl [HcR1]; · iexact HcR1
    isplitl [HO]; · iexact HO
    iexact HaR1
  rw [dmaPay_rcv]
  iintro ⟨HO, HzR1, Hl1⟩
  iapply (step_load_slot m c 1 _ _ rfl) $$ Hl1
  iintro %v1 %hv1 Hl1
  iapply (wp_load 𝒱₀ (c : Thread nD τ) none Set.univ (m := wM) (Finset.subset_univ _)) $$ Hs1; iintro Hs1
  rw [read_wrow m c (tgt 1 c) _ _ (off4_1 c), pay6_eq _ v1 _ _ hv1]
  -- the departures
  iapply (step_wait m K c (sndS 0) _ rfl 0 (mayWait_none c _)
      (dst := bM.slice (Rect.unit (s := S1024x256) (k0_off1 c 1#32) S256x256.size (k0_off1_inb c 0)) (fun _ => rfl)) (rows_credit _ _ 0)) $$ [HcS0 HO HaS0]
  · isplitr; · iexact HR
    isplitr; · iexact Hlev
    isplitl [HcS0]; · iexact HcS0
    isplitl [HO]; · iexact HO
    iexact HaS0
  rw [dmaPay_snd]
  iintro ⟨HO, HzS0, Hr0⟩
  iapply (step_wait m K c (sndS 1) _ rfl 0 (mayWait_none c _)
      (dst := bM.slice (Rect.unit (s := S1024x256) (k0_off1 c 2#32) S256x256.size (k0_off1_inb c 1)) (fun _ => rfl)) (rows_credit _ _ 1)) $$ [HcS1 HO HaS1]
  · isplitr; · iexact HR
    isplitr; · iexact Hlev
    isplitl [HcS1]; · iexact HcS1
    isplitl [HO]; · iexact HO
    iexact HaS1
  rw [dmaPay_snd]
  iintro ⟨HO, HzS1, Hr1⟩
  iapply (step_wait m K c (sndS 2) _ rfl 0 (mayWait_none c _)
      (dst := bM.slice (Rect.unit (s := S1024x256) (k0_off1 c 3#32) S256x256.size (k0_off1_inb c 2)) (fun _ => rfl)) (rows_credit _ _ 2)) $$ [HcS2 HO HaS2]
  · isplitr; · iexact HR
    isplitr; · iexact Hlev
    isplitl [HcS2]; · iexact HcS2
    isplitl [HO]; · iexact HO
    iexact HaS2
  rw [dmaPay_snd]
  iintro ⟨HO, HzS2, Hr2⟩
  -- the result, and its copy out
  iapply (wp_load 𝒱₀ (c : Thread nD τ) none Set.univ (m := oM) (Finset.subset_univ _)) $$ Hs2; iintro Hs2
  iapply (wp_store 𝒱₀ (c : Thread nD τ) none Set.univ (m := oM) (r := Rect.unit (s := S256x1024) ![0, 0] S256x1024.size inb_S256x1024_S256x1024_0_0) (Mk := Finset.univ) (Finset.subset_univ _)) $$ Hs2; iintro Hs2
  rw [show (oM.access (Rect.unit (s := S256x1024) ![0, 0] S256x1024.size inb_S256x1024_S256x1024_0_0) : View sig .tc _ _ _).write (Elt F) f2
      (k0_pay1 (macc (macc (macc (k0_pay3 (xRows m c c) (wRows m c c)) (blk m 0 c) (wRows m c (tgt 0 c))) (blk m 2 c) (wRows m c (tgt 2 c))) (blk m 1 c) (wRows m c (tgt 1 c)))) Finset.univ = out m c from
    Memref.write_access_unit_zero_univ (Elt F) cc0_scratch2 hz _ _ _]
  iapply (step_copy m K c outS _ rfl (src := oM) (dst := oHbm) rfl (out m c) (m ((c : Thread nD τ).loc main_v1)) (out_pays m c _)) $$ [Hs2 Ho HtO]
  · isplitr; · iexact HR
    rw [whole_set, whole_set]
    isplitl [Hs2]; · iexact Hs2
    isplitl [Ho]; · iexact Ho
    iexact HtO
  iintro HcO
  iapply (step_wait m K c outS _ rfl 0 (mayWait_none c _) (dst := oHbm) rfl) $$ [HcO HO HaO]
  · isplitr; · iexact HR
    isplitr; · iexact Hlev
    isplitl [HcO]; · iexact HcO
    isplitl [HO]; · iexact HO
    iexact HaO
  rw [dmaPay_out]; unfold outPay
  iintro ⟨HO, HzO, Ho, Hs2⟩
  unfold run
  rw [wp_ret]; imodintro
  iapply Hk
  unfold Φ₁ results idle scratch sendPay
  isplitr [HO]
  · isplitl [Hx Hw Ho HzB]
    · isplitr [HzB]
      · isplitl [Hx]; · iexact Hx
        isplitl [Hw] <;> iassumption
      · iexact HzB
    isplitl [HzS0 HzS1 HzS2 HzR0 HzR1 HzR2 HzX HzW HzO]
    · isplitl [HzS0 HzS1 HzS2]
      · isplitl [HzS0]; · iexact HzS0
        isplitl [HzS1] <;> iassumption
      isplitl [HzR0 HzR1 HzR2]
      · isplitl [HzR0]; · iexact HzR0
        isplitl [HzR1] <;> iassumption
      · isplitl [HzX]; · iexact HzX
        isplitl [HzW] <;> iassumption
    isplitl [Hs0]; · iexists _; iexact Hs0
    isplitl [Hs1]; · iexists _; iexact Hs1
    isplitl [Hs2]; · iexists _; iexact Hs2
    isplitl [Hrc Hr0 Hr1 Hr2]
    · iexists (xbf m c)
      iapply (Entails.of_eq (rows_eq c (xbf m c)).symm)
      isplitl [Hrc]; · iexact Hrc
      isplitl [Hr0]; · iexact Hr0
      isplitl [Hr1] <;> iassumption
    · iapply (slots_join c)
      isplitl [Hl0]; · iapply (recvPay_any m c 0); iexact Hl0
      isplitl [Hl1]; · iapply (recvPay_any m c 1); iexact Hl1
      iapply (recvPay_any m c 2); iexact Hl2
  · iexact HO

end Cert.Exchange
-- ==== Proof.Launch.lean ====
/-
The whole run. The launch mints the exchange's ghost state on every device, each device trades the payments of its own
semaphores for the ones it makes, and the run of the body on each device (Proof/Body.lean) closes the launch: every
execution ends, with each device's result written, its inputs as they were and every semaphore at zero.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The launch's data -/

/-- The launch has one region without windows: a device goes from `Φ₀`, owing `O₀`, to `Φ₁`, owing nothing. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_none (Φ : Fin cfg0.W → sProp 𝕄) : bigSep Finset.univ Φ = iprop(emp) :=
  bigSep_univ_eq_bigSepL [] (by decide) (by decide) Φ

/-- What the region asks of the body at its only point, and what it gets. -/
def before (c : Dev nD) : sProp 𝕄 := iprop(Φ₀ m c ∗ (dats m 0 c).owesAt () t0_0.castSucc ∗ emp)
def after (c : Dev nD) : sProp 𝕄 := iprop(Φ₁ m c ∗ (dats m 0 c).owesAt () t0_0.succ ∗ emp)

set_option maxRecDepth 8000 in
/-- The body meets the region's obligation on every device. -/
theorem body_obligation (c : Dev nD) : BodyObligation (dats m 0 c) (defs₀ (F := F)) 𝒱₀ () Set.univ := fun t => by
  rw [fin_N0 t, bigSep_none, bigSep_none]
  show before m c ⊢ run c (cc0_body (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) cc0_scratch5 cc0_scratch6 cc0_scratch7 cc0_scratch8) (fun _ => after m c)
  unfold before Φ₀ start Dat.owesAt Pipeline.owesWithin
  rw [show (dats m 0 c).owed t0_0.castSucc = O₀ c from rfl]
  iintro ⟨⟨⟨⟨%K, Hg⟩, Hcr, Hlev, Har⟩, Hscr⟩, ⟨%W, -, HO⟩, -⟩
  iapply (sound_body m K c fun _ => after m c)
  isplitr []
  · isplitl [Hg]; · iexact Hg
    isplitl [Hcr]; · iexact Hcr
    isplitl [Hlev]; · iexact Hlev
    isplitl [Har]; · iexact Har
    isplitl [Hscr]; · iexact Hscr
    unfold owing; iexists W; iexact HO
  · unfold after owing Dat.owesAt Pipeline.owesWithin
    rw [show (dats m 0 c).owed t0_0.succ = 0 from rfl]
    iintro ⟨HΦ, ⟨%W', HO⟩⟩
    isplitl [HΦ]; · iexact HΦ
    isplitl [HO]
    · iexists W'
      isplitr; · ipureintro; exact fun _ _ => Or.inl trivial
      iexact HO
    · iempintro

/-! ## The exchange's ghost state at launch -/

/-- The kernel's own semaphores are its nine transfer semaphores. -/
abbrev osem : Fin 9 → SemLoc sig := fun q => .dma q
theorem ownSemFacts : Pipeline.OwnSemFacts cfg0.spec osem := by decide

theorem kcell_injective : Function.Injective (kcell : Dev nD × SemLoc sig → GSem nD τ sig) := by
  rintro ⟨c, s⟩ ⟨c', s'⟩ h
  exact Prod.ext (congrArg (fun g : GSem nD τ sig => g.1.1) h) (congrArg (fun g : GSem nD τ sig => g.2) h)
def cells : Finset (GSem nD τ sig) := Finset.univ.map ⟨kcell, kcell_injective⟩

/-- A device's payment names: three on its barrier, one on each transfer semaphore. -/
abbrev payName (p : Dev nD × (Fin 3 ⊕ Fin 9)) : GSem nD τ sig × ℕ × Fin 3 := match p.2 with
  | .inl k => (barCell p.1, 0, k)
  | .inr q => (dmaCell p.1 q, 0, 0)
theorem payName_injective : Function.Injective payName := by
  rintro ⟨c, i⟩ ⟨c', i'⟩ h
  have h1 : c = c' := by
    have := congrArg (fun x : GSem nD τ sig × ℕ × Fin 3 => x.1.1.1) h
    rcases i with k | q <;> rcases i' with k' | q' <;> exact this
  subst h1
  rcases i with k | q <;> rcases i' with k' | q'
  · exact congrArg (fun k => (c, Sum.inl k)) (congrArg (fun x : GSem nD τ sig × ℕ × Fin 3 => x.2.2) h)
  · exact absurd (congrArg (fun x : GSem nD τ sig × ℕ × Fin 3 => x.1.2) h) (by intro h'; cases h')
  · exact absurd (congrArg (fun x : GSem nD τ sig × ℕ × Fin 3 => x.1.2) h) (by intro h'; cases h')
  · have h2 := congrArg (fun x : GSem nD τ sig × ℕ × Fin 3 => x.1.2) h
    have h3 : q = q' := by injection h2
    rw [h3]
def names : Finset (GSem nD τ sig × ℕ × Fin 3) := Finset.univ.map ⟨payName, payName_injective⟩

def u₀ : UU :=
  (initOf (Pipeline.cells cfgs cellOf_inj) (Pipeline.launchToks cfgs cellOf_inj), initOf cells names)

/-- The payments on a device's own semaphores. -/
def owned (c : Dev nD) : sProp 𝕄 :=
  iprop((dutyTok ER (barCell c) 0 2 ∗ dutyTok ER (barCell c) 0 1 ∗ dutyTok ER (barCell c) 0 0)
    ∗ (dutyTok ER (dmaCell c (rcvS 2)) 0 0 ∗ dutyTok ER (dmaCell c (rcvS 1)) 0 0 ∗ dutyTok ER (dmaCell c (rcvS 0)) 0 0)
    ∗ (dutyTok ER (dmaCell c (sndS 0)) 0 0 ∗ dutyTok ER (dmaCell c (sndS 1)) 0 0 ∗ dutyTok ER (dmaCell c (sndS 2)) 0 0)
    ∗ (dutyTok ER (dmaCell c xinS) 0 0 ∗ dutyTok ER (dmaCell c winS) 0 0 ∗ dutyTok ER (dmaCell c outS) 0 0))

/-- A product over a device's semaphores, written out. -/
theorem bigSep_sems (Φ : SemLoc sig → sProp 𝕄) : bigSep Finset.univ Φ
    = iprop(Φ (.reg barS) ∗ Φ (.dma (sndS 0)) ∗ Φ (.dma (sndS 1)) ∗ Φ (.dma (sndS 2)) ∗ Φ (.dma (rcvS 0)) ∗ Φ (.dma (rcvS 1)) ∗ Φ (.dma (rcvS 2))
      ∗ Φ (.dma xinS) ∗ Φ (.dma winS) ∗ Φ (.dma outS)) := by
  rw [bigSep_univ_eq_bigSepL [.reg barS, .dma (sndS 0), .dma (sndS 1), .dma (sndS 2), .dma (rcvS 0), .dma (rcvS 1), .dma (rcvS 2), .dma xinS, .dma winS, .dma outS] (by decide) (by decide) Φ]
  rfl

/-- A product over a device's payment names, written out in the order of `owned`. -/
theorem bigSep_pays (Φ : Fin 3 ⊕ Fin 9 → sProp 𝕄) : bigSep Finset.univ Φ
    ⊢ iprop((Φ (.inl 2) ∗ Φ (.inl 1) ∗ Φ (.inl 0)) ∗ (Φ (.inr 5) ∗ Φ (.inr 4) ∗ Φ (.inr 3))
      ∗ (Φ (.inr 0) ∗ Φ (.inr 1) ∗ Φ (.inr 2)) ∗ (Φ (.inr 6) ∗ Φ (.inr 7) ∗ Φ (.inr 8))) := by
  rw [bigSep_univ_eq_bigSepL [.inl 0, .inl 1, .inl 2, .inr 0, .inr 1, .inr 2, .inr 3, .inr 4, .inr 5, .inr 6, .inr 7, .inr 8] (by decide) (by decide) Φ]
  show iprop(Φ (.inl 0) ∗ Φ (.inl 1) ∗ Φ (.inl 2) ∗ Φ (.inr 0) ∗ Φ (.inr 1) ∗ Φ (.inr 2) ∗ Φ (.inr 3) ∗ Φ (.inr 4) ∗ Φ (.inr 5) ∗ Φ (.inr 6) ∗ Φ (.inr 7) ∗ Φ (.inr 8)) ⊢ _
  iintro ⟨B0, B1, B2, S0, S1, S2, R0, R1, R2, X, W, O⟩
  isplitl [B0 B1 B2]
  · isplitl [B2]; · iexact B2
    isplitl [B1] <;> iassumption
  isplitl [R0 R1 R2]
  · isplitl [R2]; · iexact R2
    isplitl [R1] <;> iassumption
  isplitl [S0 S1 S2]
  · isplitl [S0]; · iexact S0
    isplitl [S1] <;> iassumption
  isplitl [X]; · iexact X
  isplitl [W] <;> iassumption

/-- What the launch deals device `c`: its semaphores' round states, positions and records, and its own payments. -/
def G (c : Dev nD) : sProp 𝕄 :=
  iprop((bigSep Finset.univ fun s : SemLoc sig => roundState ER (Rd m) (kcell (c, s)) 0)
    ∗ (bigSep Finset.univ fun s : SemLoc sig => iprop(atPos ER (kcell (c, s)) 0 ∅ 0 ∗ reached ER (kcell (c, s)) 0)) ∗ owned c)
/-- What the devices together make of it. -/
def G' (c : Dev nD) : sProp 𝕄 := iprop(∃ K, ghost m K c)

theorem fund : BI.own (ER (initOf cells names)) ⊢ (|==> bigSep Finset.univ (G m) : sProp 𝕄) := by
  have hX (Φ : GSem nD τ sig → sProp 𝕄) : bigSep cells Φ = bigSep Finset.univ fun c : Dev nD => bigSep Finset.univ fun s : SemLoc sig => Φ (kcell (c, s)) := by
    unfold cells; rw [bigSep_map, bigSep_univ_prod]; rfl
  have hT : bigSep names (fun x => (dutyTok ER x.1 x.2.1 x.2.2 : sProp 𝕄)) ⊢ bigSep Finset.univ fun c : Dev nD => owned c := by
    unfold names; rw [bigSep_map, bigSep_univ_prod]
    exact bigSep_mono fun c _ => (bigSep_pays _).trans (Entails.of_eq rfl)
  iintro HX
  imod (Rounds.fund ER (Rd m) cells names) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- The kernel's own semaphores at zero, written out, -/
theorem ownSems0_eq (c : Dev nD) : (Pipeline.ownSems0 (Ix := Unit) (Name := ℕ) (U := UU) (Lvl := ℕ) (Val := Elt F) (τ := τ) osem c : sProp 𝕄)
    = iprop(semVal (dmaCell c (sndS 0)) 0 ∗ semVal (dmaCell c (sndS 1)) 0 ∗ semVal (dmaCell c (sndS 2)) 0
      ∗ semVal (dmaCell c (rcvS 0)) 0 ∗ semVal (dmaCell c (rcvS 1)) 0 ∗ semVal (dmaCell c (rcvS 2)) 0
      ∗ semVal (dmaCell c xinS) 0 ∗ semVal (dmaCell c winS) 0 ∗ semVal (dmaCell c outS) 0) := by
  rw [Pipeline.ownSems0_eq_of_list c osem [0, 1, 2, 3, 4, 5, 6, 7, 8] (by decide) (by decide)]; rfl
/-- and the one semaphore beside them, the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun s : SemLoc sig => semVal (kcell (c, s)) 0 : sProp 𝕄) := by
  rw [ownSems0_eq, unscopedSems0_eq, bigSep_sems]
  iintro ⟨HD, HB⟩
  isplitl [HB] <;> iassumption

/-- Each device's round states become its semaphores' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s => iprop(∃ κ : ℕ, cellInv ER (Rd m) κ (kcell (c, s))))
          ∗ (bigSep Finset.univ fun s => iprop(atPos ER (kcell (c, s)) 0 ∅ 0 ∗ reached ER (kcell (c, s)) 0)) ∗ owned c) := by
  unfold G
  iintro ⟨Hos, Hus, Hst, Hat, Htok⟩
  ihave Hv := (sems0 (F := F) c) $$ [Hos Hus]
  · isplitl [Hos] <;> iassumption
  imod (show iprop((bigSep Finset.univ fun s : SemLoc sig => semVal (kcell (c, s)) 0) ∗ bigSep Finset.univ fun s : SemLoc sig => roundState ER (Rd m) (kcell (c, s)) 0)
      ⊢ (|={Set.univ}=> bigSep Finset.univ fun s => iprop(∃ κ : ℕ, cellInv ER (Rd m) κ (kcell (c, s))) : sProp 𝕄) from by
        rw [← bigSep_sep']
        exact (bigSep_mono fun s _ => (Rounds.body_intro ER (Rd m) (kcell (c, s))).trans inv_alloc).trans (bigSep_fupd _ _)) $$ [Hv Hst] with Hinv
  · isplitl [Hv] <;> iassumption
  imodintro
  isplitl [Hinv]; · iexact Hinv
  isplitl [Hat]; · iexact Hat
  iexact Htok

/-- The payments change hands: each device gives the three on its barrier and its three arrivals to the devices that
    make them. -/
theorem owned_deal : (bigSep Finset.univ fun c : Dev nD => (owned c : sProp 𝕄)) ⊢ bigSep Finset.univ fun c : Dev nD => payments c := by
  unfold owned payments
  simp only [bigSep_sep']
  rw [bigSep_univ_equiv (ring 0) (fun c : Dev nD => (dutyTok ER (barCell c) 0 2 : sProp 𝕄)),
    bigSep_univ_equiv (ring 1) (fun c : Dev nD => (dutyTok ER (barCell c) 0 1 : sProp 𝕄)),
    bigSep_univ_equiv (ring 2) (fun c : Dev nD => (dutyTok ER (barCell c) 0 0 : sProp 𝕄)),
    bigSep_univ_equiv (ring 0) (fun c : Dev nD => (dutyTok ER (dmaCell c (rcvS 2)) 0 0 : sProp 𝕄)),
    bigSep_univ_equiv (ring 1) (fun c : Dev nD => (dutyTok ER (dmaCell c (rcvS 1)) 0 0 : sProp 𝕄)),
    bigSep_univ_equiv (ring 2) (fun c : Dev nD => (dutyTok ER (dmaCell c (rcvS 0)) 0 0 : sProp 𝕄))]
  exact Entails.of_eq rfl

/-- What a device keeps to itself from here on. -/
def share (c : Dev nD) : sProp 𝕄 := iprop((bigSep Finset.univ fun s : SemLoc sig => atPos ER (kcell (c, s)) 0 ∅ 0) ∗ payments c)

theorem ghost_intro (K : Dev nD × SemLoc sig → ℕ) (c : Dev nD) : iprop(records m K ∗ share c) ⊢ G' m c := by
  unfold share G' ghost positions
  rw [bigSep_sems]
  iintro ⟨#HR, Hat, Hpay⟩
  iexists K
  isplitr; · iexact HR
  isplitl [Hat] <;> iassumption

/-- A resource everyone may read goes to every device. -/
theorem deal_to_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

theorem regroup :
    (bigSep Finset.univ fun c : Dev nD => iprop((bigSep Finset.univ fun s => iprop(∃ κ : ℕ, cellInv ER (Rd m) κ (kcell (c, s))))
          ∗ (bigSep Finset.univ fun s => iprop(atPos ER (kcell (c, s)) 0 ∅ 0 ∗ reached ER (kcell (c, s)) 0)) ∗ owned c) : sProp 𝕄)
      ⊢ bigSep Finset.univ (G' m) := by
  rw [bigSep_sep', bigSep_sep', ← bigSep_univ_prod (fun p : Dev nD × SemLoc sig => iprop(∃ κ : ℕ, cellInv ER (Rd m) κ (kcell p))),
    bigSep_congr (s := Finset.univ) (fun (c : Dev nD) _ => bigSep_sep' Finset.univ (fun s : SemLoc sig => (atPos ER (kcell (c, s)) 0 ∅ 0 : sProp 𝕄)) (fun s => reached ER (kcell (c, s)) 0)),
    bigSep_sep', ← bigSep_univ_prod (fun p : Dev nD × SemLoc sig => (reached ER (kcell p) 0 : sProp 𝕄))]
  iintro ⟨HI, ⟨Hat, #HR⟩, Htok⟩
  ihave HK := (BI.bigSep_exists_pi Finset.univ (fun (p : Dev nD × SemLoc sig) (κ : ℕ) => (cellInv ER (Rd m) κ (kcell p) : sProp 𝕄))) $$ HI
  icases HK with ⟨%K, #HI⟩
  ihave Htk := (owned_deal (F := F)) $$ Htok
  iapply (deal_to_all (R := records m K) fun c _ => ghost_intro m K c)
  isplitr
  · unfold records; isplitl; · iexact HI
    iexact HR
  · unfold share
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- What every device's barrier unit `s` comes to on device `c`, -/
theorem bar_cred (s : Fin 3) (c : Dev nD) : (Pipeline.launchCred (barDue s) c : sProp 𝕄) ⊢ cred (tallyAt (barCell c) () 1) :=
  Pipeline.launchCred_tallyAt (.reg barS) (tgt s) (tgt s.rev) (tgt_tgt_rev s) (tgt_rev_tgt s) () 1 c
/-- and every device's copy `k`. -/
theorem send_cred (k : Fin 3) (c : Dev nD) : (Pipeline.launchCred (sendDue k) c : sProp 𝕄) ⊢ cred (tallyAt (dmaCell c (rcvS k.rev)) () Nb) :=
  Pipeline.launchCred_tallyAt (.dma (rcvS k.rev)) (tgt k) (tgt k.rev) (tgt_tgt_rev k) (tgt_rev_tgt k) () Nb c

theorem O₀_cred (c : Dev nD) : (Pipeline.launchCred O₀ c : sProp 𝕄)
    = iprop((((((emp ∗ Pipeline.launchCred (sendDue 2) c) ∗ Pipeline.launchCred (sendDue 1) c) ∗ Pipeline.launchCred (sendDue 0) c)
        ∗ Pipeline.launchCred (barDue 2) c) ∗ Pipeline.launchCred (barDue 1) c) ∗ Pipeline.launchCred (barDue 0) c) := by
  have h0 : (Pipeline.launchCred O₀ c : sProp 𝕄) = iprop(Pipeline.launchCred sig1 c ∗ Pipeline.launchCred (barDue 0) c) := Pipeline.launchCred_add sig1 (barDue 0) c
  have h1 : (Pipeline.launchCred sig1 c : sProp 𝕄) = iprop(Pipeline.launchCred sig2 c ∗ Pipeline.launchCred (barDue 1) c) := Pipeline.launchCred_add sig2 (barDue 1) c
  have h2 : (Pipeline.launchCred sig2 c : sProp 𝕄) = iprop(Pipeline.launchCred owe0 c ∗ Pipeline.launchCred (barDue 2) c) := Pipeline.launchCred_add owe0 (barDue 2) c
  have h3 : (Pipeline.launchCred owe0 c : sProp 𝕄) = iprop(Pipeline.launchCred owe1 c ∗ Pipeline.launchCred (sendDue 0) c) := Pipeline.launchCred_add owe1 (sendDue 0) c
  have h4 : (Pipeline.launchCred owe1 c : sProp 𝕄) = iprop(Pipeline.launchCred owe2 c ∗ Pipeline.launchCred (sendDue 1) c) := Pipeline.launchCred_add owe2 (sendDue 1) c
  have h5 : (Pipeline.launchCred owe2 c : sProp 𝕄) = iprop(Pipeline.launchCred (fun _ => 0) c ∗ Pipeline.launchCred (sendDue 2) c) := Pipeline.launchCred_add (fun _ => 0) (sendDue 2) c
  rw [h0, h1, h2, h3, h4, h5, Pipeline.launchCred_zero]

/-- Three single units are the barrier's three. -/
theorem three_units (c : Dev nD) : iprop(cred (tallyAt (barCell c) () 1) ∗ cred (tallyAt (barCell c) () 1) ∗ cred (tallyAt (barCell c) () 1))
    ⊢ (cred (tallyAt (barCell c) () 3) : sProp 𝕄) := by
  have e : (tallyAt (barCell c) () 3 : CellTallies nD τ sig Unit) = tallyAt (barCell c) () 1 + (tallyAt (barCell c) () 1 + tallyAt (barCell c) () 1) := by
    rw [tallyAt_add, tallyAt_add]
  rw [e]
  exact (sep_mono_right (cred_add _ _).2).trans (cred_add _ _).2

theorem creds (c : Dev nD) : (Pipeline.launchCred O₀ c : sProp 𝕄) ⊢ credits c := by
  rw [O₀_cred]
  unfold credits
  iintro ⟨⟨⟨⟨⟨⟨-, S2⟩, S1⟩, S0⟩, B2⟩, B1⟩, B0⟩
  ihave B2' := (bar_cred (F := F) 2 c) $$ B2
  ihave B1' := (bar_cred (F := F) 1 c) $$ B1
  ihave B0' := (bar_cred (F := F) 0 c) $$ B0
  ihave S2' := (send_cred (F := F) 2 c) $$ S2
  ihave S1' := (send_cred (F := F) 1 c) $$ S1
  ihave S0' := (send_cred (F := F) 0 c) $$ S0
  isplitl [B0' B1' B2']
  · iapply (three_units (F := F) c)
    isplitl [B0']; · iexact B0'
    isplitl [B1'] <;> iassumption
  isplitl [S2']; · iexact S2'
  isplitl [S1']; · iexact S1'
  iexact S0'

/-! ## Into the region and out of it -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Har, Hlev, Hcr, -, HG⟩
  ihave Hc := (creds (F := F) c) $$ Hcr
  imodintro
  unfold start G' arrays
  isplitl
  · isplitl [HG]; · iexact HG
    isplitl [Hc]; · iexact Hc
    isplitl [Hlev]; · iexact Hlev
    iexact Har
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

theorem leave (c : Dev nD) :
    (dats m 0 c).Φ (Fin.last cfg0.N) ⊢ iprop((results m c ∗ unscopedSems0 c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ idle scratch
  iintro ⟨HY, ⟨⟨S0, S1, S2⟩, ⟨R0, R1, R2⟩, X, W, O⟩, Hr⟩
  isplitl [HY]; · iexact HY
  isplitr [Hr]
  · isplitl [S0]; · iexact S0
    isplitl [S1]; · iexact S1
    isplitl [S2]; · iexact S2
    isplitl [R0]; · iexact R0
    isplitl [R1]; · iexact R1
    isplitl [R2]; · iexact R2
    isplitl [X]; · iexact X
    isplitl [W] <;> iassumption
  · iexact Hr

theorem waits (c : Dev nD) : (levAts L lv : sProp 𝕄) ⊢ Pipeline.cellsWaits cfgs (dats m) () 0 c :=
  Pipeline.cellsWaits_intro cfgs (dats m) () 0 c fun w _ _ => w.elim0

/-! ## The run -/

/-- Device `c`'s arrays in a memory: its inputs as in `m`, and its result. -/
def Ends (c : Dev nD) (mem : MemSt nD τ sig (Elt F)) : Prop :=
  mem.mem ((c : Thread nD τ).loc main_arg0) = m ((c : Thread nD τ).loc main_arg0)
    ∧ mem.mem ((c : Thread nD τ).loc main_arg1) = m ((c : Thread nD τ).loc main_arg1)
    ∧ mem.mem ((c : Thread nD τ).loc main_v1) = out m c

/-- What a device holds at the end, read against the memory. -/
theorem read_results (c : Dev nD) (s' : Phys nD τ sig (Elt F)) :
    iprop(results m c ∗ SI s') ⊢ (iprop(⌜Ends m c s'.mem⌝ ∗ SI s') : sProp 𝕄) := by
  unfold results
  iintro ⟨⟨H0, H1, H2⟩, HSI⟩
  icombine HSI H0 gives %h0
  icombine HSI H1 gives %h1
  icombine HSI H2 gives %h2
  isplitr
  · ipureintro
    exact ⟨Buf.eq_of_forall_mem_univ h0, Buf.eq_of_forall_mem_univ h1, Buf.eq_of_forall_mem_univ h2⟩
  · iexact HSI

set_option maxRecDepth 8000 in
/-- Over any float values, from any memory with zero semaphores: every weakly fair execution of the program on the four
    devices ends, each device's inputs unchanged, its result the positive part of the four block products' sum, and
    every semaphore at zero. -/
theorem run_main (ρ : Dev nD → PrngReg) :
    θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ w => w.elim0) (hpf := fun _ k => k.elim0)
    (X := start m) (Y := fun c => iprop(results m c ∗ unscopedSems0 c)) (Z := fun _ => iprop(emp))
    (hX := start_intro m ρ) (hin := enter m) (hout := leave m)
    (QY := fun c s => Ends m c s ∧ ∀ sm : SemLoc sig, sm.isScoped .tc = false → s.sem ((c.tc : Thread nD τ), sm) = 0)
    (hY := fun c s' => by
      iintro ⟨⟨HY, Hu⟩, -, HSI⟩
      ihave H := (read_results m c s') $$ [HY HSI]
      · isplitl [HY] <;> iassumption
      icases H with ⟨%hE, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hE, hs⟩
      · iexact HSI)
    (hQ := fun _ h hs => ⟨fun c => (h c).2.2.1, sem_eq_zero hs fun c => (h c).2.2.2⟩)

end Cert.Exchange
-- ==== Proof.Sums.lean ====
/-
The equation between the two orders of summation: a sum over 1024 terms is the sum of its four blocks of 256, taken in
whatever order a device takes them.
-/
module

public import proofs.«01_k».proof.Proof.Protocol
public import Mathlib.Tactic.Abel

@[expose] public section

namespace Cert.Exchange

open Cert.KernelIdeal
open Idealize.ShloMosaic
open scoped BigOperators

/-- Position `k` of block `t`, among all 1024. -/
def pos (t : Dev nD) (k : Fin 256) : Fin 1024 := ⟨256 * t.val + k.val, by have := t.isLt; have := k.isLt; change t.val < 4 at *; omega⟩

/-- The 1024 positions are the 256 of each of the four blocks. -/
def posEquiv : Dev nD × Fin 256 ≃ Fin 1024 where
  toFun p := pos p.1 p.2
  invFun j := (⟨j.val / 256, by have := j.isLt; show j.val / 256 < 4; omega⟩, ⟨j.val % 256, Nat.mod_lt _ (by decide)⟩)
  left_inv p := by
    obtain ⟨t, k⟩ := p
    have hk := k.isLt
    refine Prod.ext (Fin.ext ?_) (Fin.ext ?_)
    · show (256 * t.val + k.val) / 256 = t.val; omega
    · show (256 * t.val + k.val) % 256 = k.val; omega
  right_inv j := Fin.ext (by show 256 * (j.val / 256) + j.val % 256 = j.val; omega)

/-- A sum over all positions, block by block. -/
theorem sum_pos {M : Type} [AddCommMonoid M] (f : Fin 1024 → M) : ∑ j, f j = ∑ t : Dev nD, ∑ k : Fin 256, f (pos t k) := by
  rw [← Fintype.sum_prod_type' (fun (t : Dev nD) (k : Fin 256) => f (pos t k))]
  exact (Fintype.sum_equiv posEquiv (fun p => f (pos p.1 p.2)) f fun _ => rfl).symm

/-- A sum over the four devices, starting from any one of them in the kernel's order. -/
theorem sum_from {M : Type} [AddCommMonoid M] (g : Dev nD → M) (c : Dev nD) :
    ∑ t, g t = ((g c + g (tgt 0 c)) + g (tgt 2 c)) + g (tgt 1 c) := by
  have h (h0 h1 h2 h3 : M) : ∀ c : Fin 4, h0 + h1 + h2 + h3 = ((![h0, h1, h2, h3] c + ![h0, h1, h2, h3] (tgt 0 c)) + ![h0, h1, h2, h3] (tgt 2 c)) + ![h0, h1, h2, h3] (tgt 1 c) := by
    intro c
    fin_cases c
    · show h0 + h1 + h2 + h3 = ((h0 + h1) + h3) + h2; abel
    · show h0 + h1 + h2 + h3 = ((h1 + h2) + h0) + h3; abel
    · show h0 + h1 + h2 + h3 = ((h2 + h3) + h1) + h0; abel
    · show h0 + h1 + h2 + h3 = ((h3 + h0) + h2) + h1; abel
  have e : g = ![g (0 : Fin 4), g (1 : Fin 4), g (2 : Fin 4), g (3 : Fin 4)] := by
    funext t
    match t with
    | ⟨0, _⟩ => rfl
    | ⟨1, _⟩ => rfl
    | ⟨2, _⟩ => rfl
    | ⟨3, _⟩ => rfl
  have s : ∑ t, g t = g (0 : Fin 4) + g (1 : Fin 4) + g (2 : Fin 4) + g (3 : Fin 4) := Fin.sum_univ_four (fun t : Fin 4 => g t)
  rw [s, h _ _ _ _ c, ← e]

end Cert.Exchange
-- ==== Proof.Value.lean ====
/-
What the kernel computes over the reals. The rounding to 16 bits is the identity there, so each of the four block
products is a sum of 256 products of an entry of `x` and an entry of `w`, and a device's result is the positive part of
their sum over all 1024 columns of `x`.
-/
module

public import proofs.«01_k».proof.Proof.Sums
public import Idealize.ShloMosaic.Lib.MatmulPlain
public import Idealize.ShloMosaic.Lib.Layout
public import Idealize.ShloMosaic.Lib.Pipeline.Value

@[expose] public section

noncomputable section

namespace Cert.Exchange

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ)

/-! ## Blocks of rows -/

/-- Entry `(r, k)` of device `t`'s block of a `1024 × 256` array is entry `(256 t + r, k)` of the array. -/
theorem row_ix (t : Dev nD) (r k : Fin 256) : (rowR t).toLoadRect.idx (ix2 r k) = ix2 (pos t r) k := by
  funext a; apply Fin.ext
  match a with
  | ⟨0, _⟩ => show 256 * t.val + 1 * r.val = 256 * t.val + r.val; omega
  | ⟨1, _⟩ => show 0 + 1 * k.val = k.val; omega
/-- Entry `(k, j)` of device `t`'s block of `w` is entry `(256 t + k, j)` of `w`. -/
theorem wrow_ix (t : Dev nD) (k : Fin 256) (j : Fin 1024) : (wrowR t).toLoadRect.idx (ix2 k j) = ix2 (pos t k) j := by
  funext a; apply Fin.ext
  match a with
  | ⟨0, _⟩ => show 256 * t.val + 1 * k.val = 256 * t.val + k.val; omega
  | ⟨1, _⟩ => show 0 + 1 * j.val = j.val; omega

/-- Entry `(i, k)` of device `c`'s columns of `x`, and entry `(i, j)` of its `w`. -/
def xEnt (c : Dev nD) (i : Fin 1024) (k : Fin 256) : EReal := xv m c (ix2 i k)
def wEnt (c : Dev nD) (i j : Fin 1024) : EReal := wv m c (ix2 i j)

theorem xRows_at (c t : Dev nD) (r k : Fin 256) : xRows m c t (ix2 r k) = xEnt m c (pos t r) k := by
  unfold xEnt; rw [← row_ix t r k]; rfl
theorem wRows_at (c t : Dev nD) (k : Fin 256) (j : Fin 1024) : wRows m c t (ix2 k j) = wEnt m c (pos t k) j := by
  unfold wEnt; rw [← wrow_ix t k j]; rfl

/-- Over the reals the rounded `x` is `x`. -/
theorem xbf_at (c : Dev nD) (i : S1024x256.Idx) : xbf m c i = xv m c i := by
  unfold xbf k0_pay2
  rw [shapeCast_self]
  rfl

/-- Entry `(r, k)` of the block that arrives in slot `s` of device `c`: device `c`'s row `r` of the sender's column `k`. -/
theorem blk_at (s : Fin 3) (c : Dev nD) (r k : Fin 256) : blk m s c (ix2 r k) = xEnt m (tgt s c) (pos c r) k := by
  unfold xEnt; rw [← xbf_at, ← row_ix c r k]; rfl

/-! ## The products -/

/-- Entry `(r, j)` of one block product onto a zero accumulator. -/
theorem product_at {φ : FTy} (a : FVec Ideal S256x256 φ) (w : FVec Ideal S256x1024 .f32) (r : Fin 256) (j : Fin 1024) :
    matmul dot_S256x256_S256x1024_S256x1024_1_0_0_1_n_n none a w (constant S256x1024 .f32 0x00000000#32) (ix2 r j)
      = ∑ k : Fin 256, a (ix2 r k) * w (ix2 k j) := by
  have h := Ideal.matmul_plain_apply (M := 256) (K := 256) (N := 1024) none a w (constant S256x1024 .f32 0x00000000#32) r j
  refine Eq.trans h ?_
  rw [show (constant (F := Ideal) S256x1024 .f32 0x00000000#32) (ix2 r j) = 0 from Ideal.ofBits_zero_f32, zero_add]

/-- The part of entry `(256 c + r, j)` of the whole product that device `t`'s columns of `x` contribute. -/
def part (c : Dev nD) (r : Fin 256) (j : Fin 1024) (t : Dev nD) : EReal :=
  ∑ k : Fin 256, xEnt m t (pos c r) k * wEnt m c (pos t k) j

theorem acc0_at (c : Dev nD) (r : Fin 256) (j : Fin 1024) : acc0 m c (ix2 r j) = part m c r j c := by
  refine (product_at (xRows m c c) (wRows m c c) r j).trans ?_
  exact Finset.sum_congr rfl fun k _ => by rw [xRows_at, wRows_at]

theorem macc_at (a : FVec Ideal S256x1024 .f32) (s : Fin 3) (c : Dev nD) (r : Fin 256) (j : Fin 1024) :
    macc a (blk m s c) (wRows m c (tgt s c)) (ix2 r j) = a (ix2 r j) + part m c r j (tgt s c) := by
  refine congrArg (a (ix2 r j) + ·) ((product_at (blk m s c) (wRows m c (tgt s c)) r j).trans ?_)
  exact Finset.sum_congr rfl fun k _ => by rw [blk_at, wRows_at]

/-- The four products together are the sum over all four devices' columns. -/
theorem acc3_at (c : Dev nD) (r : Fin 256) (j : Fin 1024) : acc3 m c (ix2 r j) = ∑ t, part m c r j t := by
  unfold acc3 acc2 acc1
  rw [macc_at, macc_at, macc_at, acc0_at, sum_from (part m c r j) c]

/-- A device's result, entry by entry. -/
theorem out_at (c : Dev nD) (r : Fin 256) (j : Fin 1024) : out m c (ix2 r j) = max (∑ t, part m c r j t) 0 := by
  unfold out k0_pay1
  rw [shapeCast_self]
  show max (acc3 m c (ix2 r j)) (Ideal.ofBits .f32 0x00000000#32) = _
  rw [Ideal.ofBits_zero_f32, acc3_at]

end Cert.Exchange
-- ==== Proof.Agreement.lean ====
/-
What the reference computes, and that each device's result is its block of it: entry `(i, j)` of the reference is the
positive part of the sum over 1024 columns of `x`, the kernel's sum is that sum in four blocks.
-/
module

public import proofs.«01_k».proof.Proof.Value
public import proofs.«01_k».proof.Proof.Gen.ReferenceIdeal.Run
public import Idealize.ShloMosaic.Lib.StackMember
public import Idealize.ShloMosaic.Lib.IdealHost

@[expose] public section

noncomputable section

namespace Cert.Exchange

open Idealize.ShloMosaic Idealize.ShloMosaic.TcCoe Idealize.ShloMosaic.ValueIdx
open scoped BigOperators

/-- A `1024 × 1024` array of extended reals. -/
abbrev Square : Type := FVec Ideal (⟨2, ![1024, 1024]⟩ : Shape) .f32

/-- The reference's result on whole arrays: the positive part of the matrix product. -/
def refOut (X W : Square) : Square :=
  maximumf (Host.dotGeneral Cert.ReferenceIdeal.dot_S1024x1024_S1024x1024_S1024x1024_1_0_0_1_n_n none X W)
    (broadcastInDim Cert.ReferenceIdeal.S1024x1024 ![] Cert.ReferenceIdeal.Facts₀.bcast_S_S1024x1024 (constant Cert.ReferenceIdeal.S_ .f32 0x00000000#32))

/-- Entry `(i, j)` of the reference's result. -/
theorem refOut_at (X W : Square) (i j : Fin 1024) : refOut X W (ix2 i j) = max (∑ k : Fin 1024, X (ix2 i k) * W (ix2 k j)) 0 := by
  have h := StackMember.dotGeneral_plain_apply (m := 1024) (n := 1024) (k := 1024) none X W i j
  have hz : (broadcastInDim Cert.ReferenceIdeal.S1024x1024 ![] Cert.ReferenceIdeal.Facts₀.bcast_S_S1024x1024
      (constant (F := Ideal) Cert.ReferenceIdeal.S_ .f32 0x00000000#32)) (ix2 i j) = 0 := Ideal.ofBits_zero_f32
  unfold refOut
  show max (Host.dotGeneral Cert.ReferenceIdeal.dot_S1024x1024_S1024x1024_S1024x1024_1_0_0_1_n_n none X W (ix2 i j)) _ = _
  rw [hz]
  exact congrArg (max · 0) h

open Cert.KernelIdeal in
/-- Block `t` of the columns of a whole `x`, read at `(i, k)`. -/
theorem cols_at (X : Square) (t : Dev nD) (i : Fin 1024) (k : Fin 256) :
    Layout.block ⟨2, ![1024, 256]⟩ ⟨2, ![1024, 1024]⟩ 1 4 t X (by decide) (ix2 i k) = X (ix2 i (pos t k)) := by
  rw [Layout.block_apply]
  refine congrArg X (funext fun a => Fin.ext ?_)
  match a with
  | ⟨0, _⟩ => rfl
  | ⟨1, _⟩ => show t.val * 256 + k.val = 256 * t.val + k.val; omega

open Cert.KernelIdeal in
/-- Block `c` of the rows of a whole result, read at `(r, j)`. -/
theorem rows_at (Y : Square) (c : Dev nD) (r : Fin 256) (j : Fin 1024) :
    Layout.block ⟨2, ![256, 1024]⟩ ⟨2, ![1024, 1024]⟩ 0 4 c Y (by decide) (ix2 r j) = Y (ix2 (pos c r) j) := by
  rw [Layout.block_apply]
  refine congrArg Y (funext fun a => Fin.ext ?_)
  match a with
  | ⟨0, _⟩ => show c.val * 256 + r.val = 256 * c.val + r.val; omega
  | ⟨1, _⟩ => rfl

open Cert.KernelIdeal in
/-- From devices holding their columns of `X`, and `W`, each device's result is its rows of the reference's. -/
theorem out_eq (m : (ℓ : Loc nD τ sig) → Buf (Elt Ideal) ℓ) (X W : Square)
    (hx : ∀ c : Dev nD, xv m c = Layout.block ⟨2, ![1024, 256]⟩ ⟨2, ![1024, 1024]⟩ 1 4 c X (by decide)) (hw : ∀ c : Dev nD, wv m c = W) (c : Dev nD) :
    out m c = Layout.block ⟨2, ![256, 1024]⟩ ⟨2, ![1024, 1024]⟩ 0 4 c (refOut X W) (by decide) := by
  funext i
  obtain ⟨r, j, rfl⟩ : ∃ (r : Fin 256) (j : Fin 1024), i = ix2 r j := ⟨i 0, i 1, eq_ix2 i⟩
  have ex (t : Dev nD) (i : Fin 1024) (k : Fin 256) : xEnt m t i k = X (ix2 i (pos t k)) := by
    unfold xEnt; rw [hx]; exact cols_at X t i k
  have ew (i j : Fin 1024) : wEnt m c i j = W (ix2 i j) := by unfold wEnt; rw [hw]
  have hs : ∑ t, part m c r j t = ∑ k : Fin 1024, X (ix2 (pos c r) k) * W (ix2 k j) := by
    rw [sum_pos]
    exact Finset.sum_congr rfl fun t _ => Finset.sum_congr rfl fun k _ => by rw [ex, ew]
  rw [out_at, rows_at, refOut_at, hs]

end Cert.Exchange
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Agreement
public import Idealize.ShloMosaic.Adequacy
public import Idealize.ShloMosaic.Init

@[expose] public section

noncomputable section

namespace Cert.Proof

open Idealize.ShloMosaic Idealize.SL.Sem Cert.Kernel

/-- The idealized kernel runs, leaves its inputs as they were and every semaphore at zero. -/
theorem frame_idealized : Cert.quiescent_KernelIdeal := fun m ρ _ =>
  (θ_run Cert.KernelIdeal.defs _ _).mono (fun _ h => ⟨fun c => ⟨(h.1 c).1, (h.1 c).2.1⟩, h.2⟩)
    (Cert.Exchange.run_main (F := Ideal) m ρ)

/-- So does the kernel, whose text is the same. -/
theorem frame_kernel : Cert.quiescent_Kernel := fun m ρ _ =>
  (θ_run Cert.KernelIdeal.defs _ _).mono (fun _ h => ⟨fun c => ⟨(h.1 c).1, (h.1 c).2.1⟩, h.2⟩)
    (Cert.Exchange.run_main (F := Bits) m ρ)

/-- The reference runs and leaves its inputs as they were; it has no semaphore. -/
theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- Over the reals, each device's result is its block of rows of the reference's. -/
theorem agreement : Cert.algebraic_KernelIdeal_ReferenceIdeal := by
  intro m ρ m' ρ' _ hargs
  refine ⟨Cert.Exchange.refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨(h.1 c).2.2.trans (Cert.Exchange.out_eq m _ _ (fun d => (hargs d).1) (fun d => (hargs d).2) c), (h.1 c).1, (h.1 c).2.1⟩)
      (Cert.Exchange.run_main (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_idealized, frame_reference, trivial, agreement⟩

end Cert.Proof

end
